-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_finite [hPre_gain_finite : Cert.Pre_gain_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_finite [hPre_gain_finite : Cert.Pre_gain_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_finite [hKernelIdeal : Cert.KernelIdeal.Facts] [hPre_gain_finite : Cert.Pre_gain_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_finite [hReferenceIdeal : Cert.ReferenceIdeal.Facts] [hPre_gain_finite : Cert.Pre_gain_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gain_finite [hKernelIdeal : Cert.KernelIdeal.Facts] [hReferenceIdeal : Cert.ReferenceIdeal.Facts] [hPre_gain_finite : Cert.Pre_gain_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_finite : Cert.Pre_gain_finite.Facts),
    quiescent_Kernel (hKernel := hKernel)
    ∧ quiescent_KernelIdeal (hKernelIdeal := hKernelIdeal)
    ∧ quiescent_KernelIdeal_pre_gain_finite (hKernelIdeal := hKernelIdeal) (hPre_gain_finite := hPre_gain_finite)
    ∧ quiescent_ReferenceIdeal (hReferenceIdeal := hReferenceIdeal)
    ∧ quiescent_ReferenceIdeal_pre_gain_finite (hReferenceIdeal := hReferenceIdeal) (hPre_gain_finite := hPre_gain_finite)
    ∧ preserves_Kernel_KernelIdeal
    ∧ algebraic_KernelIdeal_ReferenceIdeal_pre_gain_finite (hKernelIdeal := hKernelIdeal) (hReferenceIdeal := hReferenceIdeal) (hPre_gain_finite := hPre_gain_finite)
-- ==== Pre_gain_finite.lean ====
abbrev S2x4096x3584 : Shape := ⟨3, ![2, 4096, 3584]⟩
abbrev S3584 : Shape := ⟨1, ![3584]⟩
abbrev S3584x2304 : Shape := ⟨2, ![3584, 2304]⟩
abbrev S2304 : Shape := ⟨1, ![2304]⟩
abbrev S2x4096 : Shape := ⟨2, ![2, 4096]⟩
abbrev S_ : Shape := ⟨0, ![]⟩

class Facts : Prop where
  bcast_S_S3584 : S_.BroadcastsInDim S3584 (![] : Fin 0 → Fin S3584.rank)
  reducesTo_S3584_S_d0 : S3584.ReducesTo [0] S_
  h_S_ : 0 < S_.numel

variable [Facts]

def fn {F : FTy → Type} [FloatOps F] (main_arg0 : FVec F S2x4096x3584 .bf16) (main_arg1 : FVec F S3584 .f32) (main_arg2 : FVec F S3584x2304 .fp8e4m3) (main_arg3 : FVec F S2304 .f32) (main_arg4 : IVec S2x4096 32) : IVec S_ 1 :=
  let main_v0 : FVec F S3584 .f32 := Host.absf main_arg1
  let main_cst : FVec F S_ .f32 := constant S_ .f32 0x7F7FFFFF#32
  let main_v1 : FVec F S3584 .f32 := broadcastInDim S3584 ![] bcast_S_S3584 main_cst
  let main_v2 : IVec S3584 1 := cmpf .ole main_v0 main_v1
  let main_c : IVec S_ 1 := constantI S_ 1 1#1
  let main_v3 : IVec S_ 1 := (fun x v => Host.reduce IntOp.andi x v reducesTo_S3584_S_d0 h_S_) main_v2 main_c
  main_v3
-- ==== Kernel.lean ====
abbrev S2x4096x3584 : Shape := ⟨3, ![2, 4096, 3584]⟩
abbrev S3584 : Shape := ⟨1, ![3584]⟩
abbrev S3584x2304 : Shape := ⟨2, ![3584, 2304]⟩
abbrev S2304 : Shape := ⟨1, ![2304]⟩
abbrev S2x4096 : Shape := ⟨2, ![2, 4096]⟩
abbrev S8192x3584 : Shape := ⟨2, ![8192, 3584]⟩
abbrev S1x3584 : Shape := ⟨2, ![1, 3584]⟩
abbrev S1x2304 : Shape := ⟨2, ![1, 2304]⟩
abbrev S8192x1 : Shape := ⟨2, ![8192, 1]⟩
abbrev S8192x1792 : Shape := ⟨2, ![8192, 1792]⟩
abbrev S8192x256 : Shape := ⟨2, ![8192, 256]⟩
abbrev S256x3584 : Shape := ⟨2, ![256, 3584]⟩
abbrev S256x1 : Shape := ⟨2, ![256, 1]⟩
abbrev S256x1792 : Shape := ⟨2, ![256, 1792]⟩
abbrev S256x256 : Shape := ⟨2, ![256, 256]⟩
abbrev S256 : Shape := ⟨1, ![256]⟩
abbrev S1x255 : Shape := ⟨2, ![1, 255]⟩
abbrev S256x255 : Shape := ⟨2, ![256, 255]⟩
abbrev S256x2304 : Shape := ⟨2, ![256, 2304]⟩
abbrev S1x128 : Shape := ⟨2, ![1, 128]⟩
abbrev S256x128 : Shape := ⟨2, ![256, 128]⟩

abbrev nBuf : Space → Nat
  | .hbm => 14
  | .vmem => 17
  | .smem => 0
  | _ => 0

abbrev bufTy : (tb : Table) → Fin (tcTables nBuf tb) → BufTy
  | .hbm, ⟨0, _⟩ => ⟨S2x4096x3584, .bf16⟩
  | .hbm, ⟨1, _⟩ => ⟨S3584, .f32⟩
  | .hbm, ⟨2, _⟩ => ⟨S3584x2304, .fp8e4m3⟩
  | .hbm, ⟨3, _⟩ => ⟨S2304, .f32⟩
  | .hbm, ⟨4, _⟩ => ⟨S2x4096, .i32⟩
  | .hbm, ⟨5, _⟩ => ⟨S8192x3584, .bf16⟩
  | .hbm, ⟨6, _⟩ => ⟨S1x3584, .f32⟩
  | .hbm, ⟨7, _⟩ => ⟨S1x2304, .f32⟩
  | .hbm, ⟨8, _⟩ => ⟨S8192x1, .i32⟩
  | .hbm, ⟨9, _⟩ => ⟨S8192x1792, .bf16⟩
  | .hbm, ⟨10, _⟩ => ⟨S8192x256, .bf16⟩
  | .hbm, ⟨11, _⟩ => ⟨S8192x256, .bf16⟩
  | .hbm, ⟨12, _⟩ => ⟨S8192x3584, .fp8e4m3⟩
  | .hbm, ⟨13, _⟩ => ⟨S8192x1, .f32⟩
  | .local _ .vmem, ⟨0, _⟩ => ⟨S256x3584, .bf16⟩
  | .local _ .vmem, ⟨1, _⟩ => ⟨S256x3584, .bf16⟩
  | .local _ .vmem, ⟨2, _⟩ => ⟨S1x3584, .f32⟩
  | .local _ .vmem, ⟨3, _⟩ => ⟨S3584x2304, .fp8e4m3⟩
  | .local _ .vmem, ⟨4, _⟩ => ⟨S1x2304, .f32⟩
  | .local _ .vmem, ⟨5, _⟩ => ⟨S256x1, .i32⟩
  | .local _ .vmem, ⟨6, _⟩ => ⟨S256x1, .i32⟩
  | .local _ .vmem, ⟨7, _⟩ => ⟨S256x1792, .bf16⟩
  | .local _ .vmem, ⟨8, _⟩ => ⟨S256x1792, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x3584, .fp8e4m3⟩
  | .local _ .vmem, ⟨14, _⟩ => ⟨S256x3584, .fp8e4m3⟩
  | .local _ .vmem, ⟨15, _⟩ => ⟨S256x1, .f32⟩
  | .local _ .vmem, ⟨16, _⟩ => ⟨S256x1, .f32⟩
  | _, _ => ⟨S2x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3584 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x4096x3584 : Shape := ⟨3, ![2, 4096, 3584]⟩
abbrev S3584 : Shape := ⟨1, ![3584]⟩
abbrev S3584x2304 : Shape := ⟨2, ![3584, 2304]⟩
abbrev S2304 : Shape := ⟨1, ![2304]⟩
abbrev S2x4096 : Shape := ⟨2, ![2, 4096]⟩
abbrev S8192x3584 : Shape := ⟨2, ![8192, 3584]⟩
abbrev S1x3584 : Shape := ⟨2, ![1, 3584]⟩
abbrev S1x2304 : Shape := ⟨2, ![1, 2304]⟩
abbrev S8192x1 : Shape := ⟨2, ![8192, 1]⟩
abbrev S8192x1792 : Shape := ⟨2, ![8192, 1792]⟩
abbrev S8192x256 : Shape := ⟨2, ![8192, 256]⟩
abbrev S8192 : Shape := ⟨1, ![8192]⟩
abbrev S1x253 : Shape := ⟨2, ![1, 253]⟩
abbrev S8192x253 : Shape := ⟨2, ![8192, 253]⟩
abbrev S8192x2304 : Shape := ⟨2, ![8192, 2304]⟩
abbrev S8192x14x128 : Shape := ⟨3, ![8192, 14, 128]⟩
abbrev S8192x2x128 : Shape := ⟨3, ![8192, 2, 128]⟩
abbrev S1x64 : Shape := ⟨2, ![1, 64]⟩
abbrev S8192x64 : Shape := ⟨2, ![8192, 64]⟩
abbrev S8192x1x64 : Shape := ⟨3, ![8192, 1, 64]⟩
abbrev S8192x14x64 : Shape := ⟨3, ![8192, 14, 64]⟩
abbrev S8192x2x64 : Shape := ⟨3, ![8192, 2, 64]⟩

abbrev nBuf : Space → Nat
  | .hbm => 14
  | .vmem => 10
  | .smem => 0
  | _ => 0

abbrev bufTy : (tb : Table) → Fin (tcTables nBuf tb) → BufTy
  | .hbm, ⟨0, _⟩ => ⟨S2x4096x3584, .bf16⟩
  | .hbm, ⟨1, _⟩ => ⟨S3584, .f32⟩
  | .hbm, ⟨2, _⟩ => ⟨S3584x2304, .fp8e4m3⟩
  | .hbm, ⟨3, _⟩ => ⟨S2304, .f32⟩
  | .hbm, ⟨4, _⟩ => ⟨S2x4096, .i32⟩
  | .hbm, ⟨5, _⟩ => ⟨S8192x3584, .bf16⟩
  | .hbm, ⟨6, _⟩ => ⟨S1x3584, .f32⟩
  | .hbm, ⟨7, _⟩ => ⟨S1x2304, .f32⟩
  | .hbm, ⟨8, _⟩ => ⟨S8192x1, .i32⟩
  | .hbm, ⟨9, _⟩ => ⟨S8192x1792, .bf16⟩
  | .hbm, ⟨10, _⟩ => ⟨S8192x256, .bf16⟩
  | .hbm, ⟨11, _⟩ => ⟨S8192x256, .bf16⟩
  | .hbm, ⟨12, _⟩ => ⟨S8192x3584, .fp8e4m3⟩
  | .hbm, ⟨13, _⟩ => ⟨S8192x1, .f32⟩
  | .local _ .vmem, ⟨0, _⟩ => ⟨S8192x3584, .bf16⟩
  | .local _ .vmem, ⟨1, _⟩ => ⟨S1x3584, .f32⟩
  | .local _ .vmem, ⟨2, _⟩ => ⟨S3584x2304, .fp8e4m3⟩
  | .local _ .vmem, ⟨3, _⟩ => ⟨S1x2304, .f32⟩
  | .local _ .vmem, ⟨4, _⟩ => ⟨S8192x1, .i32⟩
  | .local _ .vmem, ⟨5, _⟩ => ⟨S8192x1792, .bf16⟩
  | .local _ .vmem, ⟨6, _⟩ => ⟨S8192x256, .bf16⟩
  | .local _ .vmem, ⟨7, _⟩ => ⟨S8192x256, .bf16⟩
  | .local _ .vmem, ⟨8, _⟩ => ⟨S8192x3584, .fp8e4m3⟩
  | .local _ .vmem, ⟨9, _⟩ => ⟨S8192x1, .f32⟩
  | _, _ => ⟨S2x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelBlocks.lean ====
/-
  Hand-kept copy of the blockwise part of the kernel's generated value module. Per output window: what a grid point writes
  back (`flushed`), two points' blocks are disjoint (`disjoint`), block `t` of the final array is what point `t` wrote
  (`blocks`), an index no block covers keeps its contents (`entry`); and the run with each result array named (`run_blocks`).
-/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 32 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8192x1792.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 32 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x256.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 32 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8192x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 32 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8192x3584.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t)) := by
  show (cfg0.win 9).cut (grid0.coords t) ((dats m 0 c).after 9 t) = _
  rw [after0_9]

/-- The index map sends distinct grid points to distinct block indices (decided over the 32 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8192x1.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v4_4) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_v4_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.Quant.lean ====
/-
  Hand-written, untrusted. THE SCALE'S EXPONENT. The kernel counts how many of the 255 floats with bit patterns
  `1 <<< 23 … 255 <<< 23` the row's target `v` reaches, and builds `2 ^ e` and `2 ^ (-e)` by shifting exponent fields
  into place. The reference takes the least `e` with `v < 2 ^ e` and calls `exp2`. Below `2 ^ 126` they agree.
-/
module

public import Idealize.ShloMosaic.Lib.Pointwise

@[expose] public section

noncomputable section

namespace Cert.Proof

open Idealize.ShloMosaic

/-- The extended real `2 ^ z`. -/
def pw (z : ℤ) : EReal := (((2 : ℝ) ^ z : ℝ) : EReal)

/-- Powers of two are ordered as their exponents. -/
theorem pw_le {a b : ℤ} : pw a ≤ pw b ↔ a ≤ b := by
  unfold pw
  rw [EReal.coe_le_coe_iff]
  exact zpow_le_zpow_iff_right₀ (by norm_num)

/-- Powers of two are strictly ordered as their exponents. -/
theorem pw_lt {a b : ℤ} : pw a < pw b ↔ a < b := by
  unfold pw
  rw [EReal.coe_lt_coe_iff]
  exact zpow_lt_zpow_iff_right₀ (by norm_num)

/-- `exp2` of an integer is the power of two. -/
theorem exp2_int (z : ℤ) : Ideal.exp2 (((z : ℝ)) : EReal) = pw z := by
  rw [Ideal.exp2_coe, pw]
  exact congrArg _ (Real.rpow_intCast 2 z)

/-- The exponent bits of the word with the field `i` and nothing else. -/
theorem field_bits : ∀ i : Fin 256, ((BitVec.ofNat 32 (i.val * 2 ^ 23)).extractLsb' 23 8).toNat = i.val := by
  decide +kernel

/-- Its fraction bits are zero. -/
theorem field_fraction : ∀ i : Fin 256, ((BitVec.ofNat 32 (i.val * 2 ^ 23)).extractLsb' 0 23).toNat = 0 := by
  decide +kernel

/-- Its sign bit is zero. -/
theorem field_sign : ∀ i : Fin 256, ((BitVec.ofNat 32 (i.val * 2 ^ 23)).extractLsb' (8 + 23) 1 == 1#1) = false := by
  decide +kernel

/-- A word of sign 0, exponent field `ex` in `1 … 254` and fraction 0 denotes `2 ^ (ex - 127)`. -/
theorem ieee_power (b : BitVec 32) (ex : ℕ) (h1 : 1 ≤ ex) (h2 : ex ≤ 254) (hex : (b.extractLsb' 23 8).toNat = ex)
    (hfr : (b.extractLsb' 0 23).toNat = 0) (hsg : (b.extractLsb' (8 + 23) 1 == 1#1) = false) :
    Ideal.ofBits .f32 b = pw ((ex : ℤ) - 127) := by
  have hi1 : ex ≠ 2 ^ 8 - 1 := by omega
  have hi0 : ex ≠ 0 := by omega
  simp only [Ideal.ofBits, Ideal.ieee, hex, hfr, hsg, hi1, hi0, if_false, pw]
  refine congrArg _ ?_
  have : ((ex : ℤ) - (2 ^ (8 - 1) - 1) - ((23 : ℕ) : ℤ)) = ((ex : ℤ) - 127) - 23 := by norm_num
  rw [this, zpow_sub₀ (two_ne_zero) ((ex : ℤ) - 127) 23]
  norm_num
  field_simp

/-- A float whose sign and fraction are zero and whose exponent field is `i`, `1 ≤ i ≤ 254`, is `2 ^ (i - 127)`. -/
theorem ofBits_field (i : ℕ) (h1 : 1 ≤ i) (h2 : i ≤ 254) :
    Ideal.ofBits .f32 (BitVec.ofNat 32 (i * 2 ^ 23)) = pw ((i : ℤ) - 127) :=
  ieee_power _ i h1 h2 (field_bits ⟨i, by omega⟩) (field_fraction ⟨i, by omega⟩) (field_sign ⟨i, by omega⟩)

/-- The largest exponent field with a zero fraction is plus infinity. -/
theorem ofBits_field_top : Ideal.ofBits .f32 (BitVec.ofNat 32 (255 * 2 ^ 23)) = ⊤ := by
  simp [Ideal.ofBits, Ideal.ieee]

/-- Shifting a small exponent field into place, for every field. -/
theorem shli_fields : ∀ i : Fin 256, IntOp.shli .vector (BitVec.ofNat 32 i.val) 23#32 = BitVec.ofNat 32 (i.val * 2 ^ 23) := by
  decide +kernel

/-- Shifting a small exponent field into place. -/
theorem shli_field (i : ℕ) (h : i ≤ 255) :
    IntOp.shli .vector (BitVec.ofNat 32 i) 23#32 = BitVec.ofNat 32 (i * 2 ^ 23) :=
  shli_fields ⟨i, by omega⟩

/-- Summing the bits of a property over a finite set counts the elements that have it. -/
theorem fold_count {ι : Type*} [DecidableEq ι] (p : ι → Prop) [DecidablePred p] (s : Finset ι) :
    s.fold IntOp.addi (0#32) (fun x => BitVec.setWidth 32 (BitVec.ofBool (decide (p x))))
      = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (by simp [ha])]
      simp only [h, decide_true]
      apply BitVec.eq_of_toNat_eq
      simp [IntOp.addi, Nat.add_comm]
    · rw [if_neg h]
      simp only [h, decide_false]
      apply BitVec.eq_of_toNat_eq
      simp [IntOp.addi]

/-- The kernel's exponent field: of the 255 floats with exponent fields `1 … 255` and zero fraction, how many `v` reaches. -/
def field (v : EReal) : BitVec 32 :=
  Finset.fold IntOp.addi (0#32)
    (fun x : Fin 255 => BitVec.setWidth 32 (BitVec.ofBool (decide
      (Ideal.ofBits .f32 (IntOp.shli .vector (IntOp.addi (BitVec.ofNat 32 x) 1#32) 23#32) ≤ v)))) Finset.univ

/-- The kernel's exponent of a row whose largest magnitude is `a` and whose target is `v`. -/
def kernelExpo (a v : EReal) : BitVec 32 :=
  if a = 0 then 0#32
  else Scalar.select (IntOp.ori (IntOp.cmpi .eq (field v) 0#32) (IntOp.cmpi .eq (field v) 255#32)) (0#32)
    (IntOp.subi (field v) 126#32)

/-- The reference's exponent: the least `k` in `-125 … 127` with `v < 2 ^ k`, and 0 below the least normal float. -/
def expo (v : EReal) : EReal :=
  if v < Ideal.ofBits .f32 0x00800000#32 then 0
  else Finset.fold min (Ideal.ofBits .f32 0x7F800000#32)
    (fun x : Fin 253 =>
      if v < Ideal.exp2 (FloatOps.sitofp (F := Ideal) .f32 (BitVec.ofNat 32 x) - Ideal.ofBits .f32 0x42FA0000#32) then
        FloatOps.sitofp (F := Ideal) .f32 (BitVec.ofNat 32 x) - Ideal.ofBits .f32 0x42FA0000#32
      else Ideal.ofBits .f32 0x42FE0000#32) Finset.univ

/-- The float the kernel compares with at position `x`. -/
theorem power_at (x : Fin 255) :
    Ideal.ofBits .f32 (IntOp.shli .vector (IntOp.addi (BitVec.ofNat 32 x) 1#32) 23#32)
      = if (x : ℕ) + 1 = 255 then ⊤ else pw ((x : ℤ) - 126) := by
  have : IntOp.addi (BitVec.ofNat 32 x) 1#32 = BitVec.ofNat 32 ((x : ℕ) + 1) := by
    apply BitVec.eq_of_toNat_eq
    simp [IntOp.addi]
  rw [this, shli_field _ (by omega)]
  by_cases h : (x : ℕ) + 1 = 255
  · rw [if_pos h, h, ofBits_field_top]
  · rw [if_neg h, ofBits_field _ (by omega) (by omega)]
    congr 1
    push_cast
    ring

/-- The count of the powers that `v` reaches, where `v` lies below the `n + 1`-st and (for `n > 0`) not below the `n`-th. -/
theorem field_eq (v : EReal) (n : ℕ) (hn : n ≤ 252) (hlo : n = 0 ∨ pw ((n : ℤ) - 127) ≤ v)
    (hhi : v < pw ((n : ℤ) - 126)) : field v = BitVec.ofNat 32 n := by
  unfold field
  rw [fold_count]
  congr 1
  have : (Finset.univ.filter fun x : Fin 255 =>
      Ideal.ofBits .f32 (IntOp.shli .vector (IntOp.addi (BitVec.ofNat 32 x) 1#32) 23#32) ≤ v)
      = Finset.univ.filter fun x : Fin 255 => (x : ℕ) < n := by
    apply Finset.filter_congr
    intro x _
    rw [power_at]
    constructor
    · intro h
      by_contra hx
      refine absurd (lt_of_le_of_lt h hhi) (not_lt.mpr ?_)
      split
      · exact le_top
      · exact pw_le.mpr (by omega)
    · intro h
      rw [if_neg (by omega)]
      rcases hlo with h0 | h0
      · omega
      · exact le_trans (pw_le.mpr (by omega)) h0
  rw [this, Fin.card_filter_val_lt]
  omega

/-- The candidate exponent at position `x` of the reference's search. -/
theorem candidate_at (x : Fin 253) :
    (FloatOps.sitofp (F := Ideal) .f32 (BitVec.ofNat 32 x) - Ideal.ofBits .f32 0x42FA0000#32 : EReal)
      = ((((x : ℤ) - 125 : ℤ) : ℝ) : EReal) := by
  have h1 : (FloatOps.sitofp (F := Ideal) .f32 (BitVec.ofNat 32 x) : EReal) = (((x : ℕ) : ℝ) : EReal) := by
    show (((BitVec.ofNat 32 x).toInt : ℝ) : EReal) = _
    rw [BitVec.toInt_eq_toNat_of_lt (by simp only [BitVec.toNat_ofNat]; omega), BitVec.toNat_ofNat,
      Nat.mod_eq_of_lt (by omega)]
    simp
  have h2 : (Ideal.ofBits .f32 0x42FA0000#32 : EReal) = ((125 : ℝ) : EReal) := by
    simp [Ideal.ofBits, Ideal.ieee]
    rw [← EReal.coe_mul]
    norm_num
  rw [h1, h2, ← EReal.coe_sub]
  push_cast
  rfl

/-- The default exponent of the reference's search is 127. -/
theorem default_eq : (Ideal.ofBits .f32 0x42FE0000#32 : EReal) = (((127 : ℤ) : ℝ) : EReal) := by
  simp [Ideal.ofBits, Ideal.ieee]
  rw [← EReal.coe_mul]
  norm_num

/-- The least normal float is `2 ^ (-126)`. -/
theorem tiny_eq : (Ideal.ofBits .f32 0x00800000#32 : EReal) = pw (-126) := by
  have := ofBits_field 1 (by omega) (by omega)
  simpa using this

/-- The reference's exponent where `v` lies in `[2 ^ (n - 127), 2 ^ (n - 126))`. -/
theorem expo_eq (v : EReal) (n : ℕ) (h1 : 1 ≤ n) (hn : n ≤ 252) (hlo : pw ((n : ℤ) - 127) ≤ v)
    (hhi : v < pw ((n : ℤ) - 126)) : expo v = ((((n : ℤ) - 126 : ℤ) : ℝ) : EReal) := by
  unfold expo
  rw [tiny_eq, if_neg (not_lt.mpr (le_trans (pw_le.mpr (by omega)) hlo))]
  apply le_antisymm
  · rw [Finset.fold_min_le]
    right
    refine ⟨⟨n - 1, by omega⟩, Finset.mem_univ _, ?_⟩
    rw [candidate_at, exp2_int]
    have : (((n - 1 : ℕ) : ℤ) - 125) = (n : ℤ) - 126 := by omega
    simp only [this]
    rw [if_pos hhi]
  · rw [Finset.le_fold_min]
    constructor
    · have : (Ideal.ofBits .f32 0x7F800000#32 : EReal) = ⊤ := by simp [Ideal.ofBits, Ideal.ieee]
      rw [this]
      exact le_top
    · intro x _
      rw [candidate_at, exp2_int, default_eq]
      split
      · rename_i h
        have : (n : ℤ) - 127 < (x : ℤ) - 125 := pw_lt.mp (lt_of_le_of_lt hlo h)
        rw [EReal.coe_le_coe_iff, Int.cast_le]
        omega
      · rw [EReal.coe_le_coe_iff, Int.cast_le]
        omega

/-- A `v` in `[2 ^ (-126), 2 ^ 126)` lies between two neighbouring powers of two. -/
theorem exists_binade (v : EReal) (hlo : pw (-126) ≤ v) (hhi : v < pw 126) :
    ∃ n : ℕ, 1 ≤ n ∧ n ≤ 252 ∧ pw ((n : ℤ) - 127) ≤ v ∧ v < pw ((n : ℤ) - 126) := by
  classical
  have hex : ∃ n : ℕ, v < pw ((n : ℤ) - 126) := ⟨252, by simpa using hhi⟩
  have h0 : Nat.find hex ≠ 0 := by
    intro h
    have := Nat.find_spec hex
    rw [h] at this
    exact absurd this (not_lt.mpr (by simpa using hlo))
  refine ⟨Nat.find hex, by omega, Nat.find_min' hex (by simpa using hhi), ?_, Nat.find_spec hex⟩
  have := Nat.find_min hex (m := Nat.find hex - 1) (by omega)
  rw [not_lt] at this
  refine le_trans (pw_le.mpr ?_) this
  omega

/-- The two exponents: both 0 where `v < 2 ^ (-126)`, both `n - 126` in the binade of field `n`. -/
theorem expo_cases (a v : EReal) (hav : a = 0 → v = 0) (hv : v < pw 126) :
    (kernelExpo a v = 0#32 ∧ expo v = 0)
      ∨ ∃ n : ℕ, 1 ≤ n ∧ n ≤ 252 ∧ kernelExpo a v = BitVec.ofNat 32 n - 126#32
          ∧ expo v = ((((n : ℤ) - 126 : ℤ) : ℝ) : EReal) := by
  by_cases hs : v < pw (-126)
  · left
    constructor
    · unfold kernelExpo
      rw [field_eq v 0 (by omega) (.inl rfl) (by simpa using hs)]
      split <;> rfl
    · unfold expo
      rw [tiny_eq, if_pos hs]
  · right
    obtain ⟨n, h1, h2, hlo, hhi⟩ := exists_binade v (not_lt.mp hs) hv
    refine ⟨n, h1, h2, ?_, expo_eq v n h1 h2 hlo hhi⟩
    have ha : a ≠ 0 := by
      intro h
      rw [hav h] at hs
      refine hs ?_
      have : (0 : EReal) < pw (-126) := by
        unfold pw
        rw [← EReal.coe_zero, EReal.coe_lt_coe_iff]
        positivity
      exact this
    unfold kernelExpo
    rw [if_neg ha, field_eq v n h2 (.inr hlo) hhi]
    have e0 : IntOp.cmpi .eq (BitVec.ofNat 32 n) 0#32 = 0#1 := by
      have : (BitVec.ofNat 32 n) ≠ 0#32 := by
        intro h
        have := congrArg BitVec.toNat h
        simp at this
        omega
      show BitVec.ofBool (BitVec.ofNat 32 n == _) = 0#1
      rw [beq_eq_false_iff_ne.mpr this]
      rfl
    have e1 : IntOp.cmpi .eq (BitVec.ofNat 32 n) 255#32 = 0#1 := by
      have : (BitVec.ofNat 32 n) ≠ 255#32 := by
        intro h
        have := congrArg BitVec.toNat h
        simp at this
        omega
      show BitVec.ofBool (BitVec.ofNat 32 n == _) = 0#1
      rw [beq_eq_false_iff_ne.mpr this]
      rfl
    rw [e0, e1]
    rfl

/-- The scale the kernel builds from the exponent's bits is the reference's `exp2`. -/
theorem scale_eq (a v : EReal) (hav : a = 0 → v = 0) (hv : v < pw 126) :
    Ideal.ofBits .f32 (IntOp.shli .vector (IntOp.addi (kernelExpo a v) 127#32) 23#32) = Ideal.exp2 (expo v) := by
  rcases expo_cases a v hav hv with ⟨hk, he⟩ | ⟨n, h1, h2, hk, he⟩
  · rw [hk, he]
    have := ofBits_field 127 (by omega) (by omega)
    have e : IntOp.shli .vector (IntOp.addi (0#32) 127#32) 23#32 = BitVec.ofNat 32 (127 * 2 ^ 23) := by decide
    rw [e, this, ← exp2_int]
    simp
  · rw [hk, he, exp2_int]
    have e : IntOp.addi (BitVec.ofNat 32 n - 126#32) 127#32 = BitVec.ofNat 32 (n + 1) := by
      apply BitVec.eq_of_toNat_eq
      simp [IntOp.addi]
      omega
    rw [e, shli_field _ (by omega), ofBits_field _ (by omega) (by omega)]
    congr 1
    push_cast
    ring

/-- The inverse scale the kernel builds from the negated exponent's bits is the reference's `exp2` of the negation. -/
theorem inverse_eq (a v : EReal) (hav : a = 0 → v = 0) (hv : v < pw 126) :
    Ideal.ofBits .f32 (IntOp.shli .vector (IntOp.addi (IntOp.subi (0#32) (kernelExpo a v)) 127#32) 23#32)
      = Ideal.exp2 (0 - expo v) := by
  rcases expo_cases a v hav hv with ⟨hk, he⟩ | ⟨n, h1, h2, hk, he⟩
  · rw [hk, he]
    have := ofBits_field 127 (by omega) (by omega)
    have e : IntOp.shli .vector (IntOp.addi (IntOp.subi (0#32) (0#32)) 127#32) 23#32 = BitVec.ofNat 32 (127 * 2 ^ 23) := by
      decide
    rw [e, this, ← exp2_int]
    simp
  · have hneg : (0 - expo v : EReal) = (((126 - (n : ℤ) : ℤ) : ℝ) : EReal) := by
      rw [he, ← EReal.coe_zero, ← EReal.coe_sub]
      congr 1
      push_cast
      ring
    rw [hneg, hk, exp2_int]
    have e : IntOp.addi (IntOp.subi (0#32) (BitVec.ofNat 32 n - 126#32)) 127#32 = BitVec.ofNat 32 (253 - n) := by
      apply BitVec.eq_of_toNat_eq
      simp [IntOp.addi, IntOp.subi]
      omega
    rw [e, shli_field _ (by omega), ofBits_field _ (by omega) (by omega)]
    congr 1
    omega

end Cert.Proof

end
-- ==== Proof.Spec.lean ====
/-
  Hand-written, untrusted. ONE ROW OF THE COMPUTATION over the extended reals: the normalised row, its target, its scale, its
  codes, the projected row and the rotated head, as functions of the row of activations, the gain, the weight column and the
  position. And the bound: a gain of finite floats keeps the target below `2 ^ 126`, whatever the activations.
-/
module

public import proofs.«01_k».proof.Proof.Quant

@[expose] public section

noncomputable section

namespace Cert.Proof

open Idealize.ShloMosaic

/-- Element `d` of the normalised row: `x · rsqrt (mean x² + eps) · gain`. -/
def normed (x g : Fin 3584 → EReal) (d : Fin 3584) : EReal :=
  x d * Ideal.rsqrt (Ideal.div (∑ k, x k * x k) (Ideal.ofBits .f32 0x45600000#32) + Ideal.ofBits .f32 0x358637BD#32) * g d

/-- The largest magnitude of the normalised row. -/
def largest (x g : Fin 3584 → EReal) : EReal :=
  Finset.fold max (Ideal.ofBits .f32 0xFF800000#32) (fun d => FloatOps.absf (F := Ideal) (φ := .f32) (normed x g d)) Finset.univ

/-- The target of the row's scale: its largest magnitude times 1/448. -/
def target (x g : Fin 3584 → EReal) : EReal := largest x g * Ideal.ofBits .f32 0x3B124925#32

/-- The row's scale, a power of two. -/
def scale (x g : Fin 3584 → EReal) : EReal := Ideal.exp2 (expo (target x g))

/-- Element `d` of the row's codes: the normalised element over the scale, clipped to ±448. -/
def code (x g : Fin 3584 → EReal) (d : Fin 3584) : EReal :=
  min (Ideal.ofBits .f32 0x43E00000#32) (max (Ideal.ofBits .f32 0xC3E00000#32)
    (normed x g d * Ideal.exp2 (0 - expo (target x g))))

/-- Element `c` of the projected row, dequantised: codes against the weight column, times the row's scale and the column's. -/
def proj (x g : Fin 3584 → EReal) (w : Fin 3584 → Fin 2304 → EReal) (s : Fin 2304 → EReal) (c : Fin 2304) : EReal :=
  (∑ k, code x g k * w k c) * scale x g * s c

/-- The angle of lane pair `j` at position word `p`: `p · 10000 ^ (-2j / 128)`. -/
def angle (p : BitVec 32) (j : ℕ) : EReal :=
  FloatOps.sitofp (F := Ideal) .f32 p * Ideal.pow (Ideal.ofBits .f32 0x461C4000#32)
    (0 - Ideal.div (FloatOps.sitofp (F := Ideal) .f32 (IntOp.muli (2#32) (BitVec.ofNat 32 j))) (Ideal.ofBits .f32 0x43000000#32))

/-- Lane `d` of the head that starts at column `o` of the projected row `y`, rotated by the position `p`: the first half
    `t1 cos - t2 sin`, the second half `t2 cos + t1 sin`. -/
def rotated (y : Fin 2304 → EReal) (p : BitVec 32) (o : ℕ) (ho : o + 128 ≤ 2304) (d : Fin 128) : EReal :=
  if h : (d : ℕ) < 64 then
    y ⟨o + d, by omega⟩ * Ideal.cos (angle p d) - y ⟨o + (d + 64), by omega⟩ * Ideal.sin (angle p d)
  else
    y ⟨o + d, by omega⟩ * Ideal.cos (angle p (d - 64)) + y ⟨o + (d - 64), by omega⟩ * Ideal.sin (angle p (d - 64))

/-! ## The bound on the target -/

/-- The row's length as a float. -/
theorem dim_eq : (Ideal.ofBits .f32 0x45600000#32 : EReal) = ((3584 : ℝ) : EReal) := by
  simp [Ideal.ofBits, Ideal.ieee]
  rw [← EReal.coe_mul]
  norm_num

/-- The eps added to the mean is a positive real. -/
theorem eps_pos : ∃ e : ℝ, 0 < e ∧ (Ideal.ofBits .f32 0x358637BD#32 : EReal) = (e : EReal) := by
  simp [Ideal.ofBits, Ideal.ieee]
  refine ⟨8796093 * (2 ^ 43)⁻¹, by positivity, ?_⟩
  rw [EReal.coe_mul]

/-- The float nearest 1/448 is a nonnegative real below 1/240. -/
theorem inv448_eq : ∃ e : ℝ, 0 ≤ e ∧ e < 1 / 240 ∧ (Ideal.ofBits .f32 0x3B124925#32 : EReal) = (e : EReal) := by
  simp [Ideal.ofBits, Ideal.ieee]
  refine ⟨9586981 * (2 ^ 32)⁻¹, by positivity, by norm_num, ?_⟩
  rw [EReal.coe_mul]

/-- The largest float is below `2 ^ 128`. -/
theorem max_float_le : (Ideal.ofBits .f32 0x7F7FFFFF#32 : EReal) ≤ (((2 : ℝ) ^ 128 : ℝ) : EReal) := by
  have : (Ideal.ofBits .f32 0x7F7FFFFF#32 : EReal) = ((16777215 * 2 ^ 104 : ℝ) : EReal) := by
    simp [Ideal.ofBits, Ideal.ieee]
  rw [this, EReal.coe_le_coe_iff]
  norm_num

/-- The initial value of the largest magnitude is minus infinity. -/
theorem neg_inf_eq : (Ideal.ofBits .f32 0xFF800000#32 : EReal) = ⊥ := by simp [Ideal.ofBits, Ideal.ieee]

/-- A square is nonnegative. -/
theorem sq_nonneg' (x : EReal) : 0 ≤ x * x := by
  induction x with
  | bot => simp
  | top => simp
  | coe r =>
    rw [← EReal.coe_mul]
    exact EReal.coe_nonneg.mpr (mul_self_nonneg r)

/-- A sum of real numbers, read in the extended reals. -/
theorem sum_coe' {ι : Type*} [DecidableEq ι] (s : Finset ι) (f : ι → ℝ) : ∑ k ∈ s, ((f k : ℝ) : EReal) = ((∑ k ∈ s, f k : ℝ) : EReal) := by
  induction s using Finset.induction_on with
  | empty => simp
  | insert a s ha ih => rw [Finset.sum_insert ha, Finset.sum_insert ha, ih, EReal.coe_add]

/-- Before the gain the normalised row is at most 60 in magnitude: `x² ≤ Σ x² = 3584 · mean`, and an infinite activation
    makes the mean infinite and the row zero. -/
theorem unit_bound (x : Fin 3584 → EReal) (d : Fin 3584) : ∃ u : ℝ, |u| ≤ 60 ∧
    x d * Ideal.rsqrt (Ideal.div (∑ k, x k * x k) (Ideal.ofBits .f32 0x45600000#32) + Ideal.ofBits .f32 0x358637BD#32)
      = (u : EReal) := by
  obtain ⟨e, he, hee⟩ := eps_pos
  rw [dim_eq, hee]
  by_cases hx : ∀ k, ∃ r : ℝ, x k = (r : EReal)
  · choose r hr using hx
    have hsum : ∑ k, x k * x k = ((∑ k, r k * r k : ℝ) : EReal) := by
      rw [← sum_coe']
      exact Finset.sum_congr rfl fun k _ => by rw [hr k, EReal.coe_mul]
    have hS : r d * r d ≤ ∑ k, r k * r k :=
      Finset.single_le_sum (f := fun k => r k * r k) (fun k _ => mul_self_nonneg (r k)) (Finset.mem_univ d)
    have hS0 : 0 ≤ ∑ k, r k * r k := le_trans (mul_self_nonneg (r d)) hS
    generalize (∑ k, r k * r k) = S at hsum hS hS0
    have hq : 0 < S * (1 / 3584) + e := by positivity
    rw [hsum, Ideal.div_coe (by norm_num), ← EReal.coe_mul, ← EReal.coe_add, hr d, Ideal.rsqrt_coe,
      if_neg (not_lt.mpr hq.le), if_neg hq.ne', ← EReal.coe_mul]
    refine ⟨_, ?_, rfl⟩
    have hs : 0 < Real.sqrt (S * (1 / 3584) + e) := Real.sqrt_pos.mpr hq
    rw [abs_mul, abs_of_pos (inv_pos.mpr hs), ← div_eq_mul_inv, div_le_iff₀ hs]
    have h1 : |r d| ≤ Real.sqrt (60 ^ 2 * (S * (1 / 3584) + e)) := Real.abs_le_sqrt (by nlinarith)
    rwa [Real.sqrt_mul (by norm_num), Real.sqrt_sq (by norm_num)] at h1
  · push Not at hx
    obtain ⟨k, hk⟩ := hx
    have hkk : x k * x k = ⊤ := by
      induction h : x k with
      | bot => simp
      | top => simp
      | coe r => exact absurd h (hk r)
    have htop : ∑ k, x k * x k = ⊤ := by
      refine top_le_iff.mp ?_
      rw [← hkk]
      exact Finset.single_le_sum (f := fun k => x k * x k) (fun k _ => sq_nonneg' (x k)) (Finset.mem_univ k)
    refine ⟨0, by norm_num, ?_⟩
    have hdiv : Ideal.div (⊤ : EReal) ((3584 : ℝ) : EReal) = ⊤ := by
      rw [Ideal.div_coe (by norm_num)]
      exact EReal.top_mul_coe_of_pos (by norm_num)
    rw [htop, hdiv, EReal.top_add_coe]
    show x d * 0 = _
    simp

/-- A gain at most the largest float in magnitude is a real number of magnitude at most `2 ^ 128`. -/
theorem gain_real (g : EReal) (hg : max g (-g) ≤ Ideal.ofBits .f32 0x7F7FFFFF#32) : ∃ γ : ℝ, |γ| ≤ 2 ^ 128 ∧ g = (γ : EReal) := by
  have h := le_trans hg max_float_le
  induction g with
  | bot =>
    rw [EReal.neg_bot, max_eq_right bot_le] at h
    exact absurd h (not_le.mpr (EReal.coe_lt_top _))
  | top =>
    rw [EReal.neg_top, max_eq_left bot_le] at h
    exact absurd h (not_le.mpr (EReal.coe_lt_top _))
  | coe γ =>
    refine ⟨γ, ?_, rfl⟩
    rw [← EReal.coe_neg, max_le_iff, EReal.coe_le_coe_iff, EReal.coe_le_coe_iff] at h
    exact abs_le'.mpr h

/-- With a gain of finite floats every row's target lies below `2 ^ 126`. -/
theorem target_lt (x g : Fin 3584 → EReal) (hg : ∀ d, max (g d) (-(g d)) ≤ Ideal.ofBits .f32 0x7F7FFFFF#32) :
    target x g < pw 126 := by
  have hn : ∀ d, max (normed x g d) (-(normed x g d)) ≤ ((60 * 2 ^ 128 : ℝ) : EReal) := by
    intro d
    obtain ⟨u, hu, hue⟩ := unit_bound x d
    obtain ⟨γ, hγ, hγe⟩ := gain_real (g d) (hg d)
    have : normed x g d = ((u * γ : ℝ) : EReal) := by
      unfold normed
      rw [hue, hγe, EReal.coe_mul]
    rw [this, ← EReal.coe_neg, max_le_iff, EReal.coe_le_coe_iff, EReal.coe_le_coe_iff]
    refine abs_le'.mp ?_
    rw [abs_mul]
    exact mul_le_mul hu hγ (abs_nonneg _) (by norm_num)
  have hl : largest x g ≤ ((60 * 2 ^ 128 : ℝ) : EReal) := by
    unfold largest
    rw [Finset.fold_max_le, neg_inf_eq]
    exact ⟨bot_le, fun d _ => hn d⟩
  obtain ⟨c, hc0, hc, hce⟩ := inv448_eq
  unfold target
  rw [hce]
  refine lt_of_le_of_lt (mul_le_mul_of_nonneg_right hl (EReal.coe_nonneg.mpr hc0)) ?_
  rw [← EReal.coe_mul, pw, EReal.coe_lt_coe_iff]
  calc (60 * 2 ^ 128 : ℝ) * c < (60 * 2 ^ 128) * (1 / 240) := by
        exact mul_lt_mul_of_pos_left hc (by norm_num)
    _ = (2 : ℝ) ^ (126 : ℤ) := by norm_num

/-- A row of zeros has target zero. -/
theorem target_zero (x g : Fin 3584 → EReal) (h : largest x g = 0) : target x g = 0 := by
  unfold target
  rw [h, zero_mul]

end Cert.Proof

end
-- ==== Proof.Reduce.lean ====
/-
  Hand-written, untrusted. A reduction of the rows of a matrix, read at one row, at any numbers of rows and columns.
-/
module

public import Idealize.ShloMosaic.Lib.Pointwise

@[expose] public section

noncomputable section

namespace Cert.Proof

open Idealize.ShloMosaic

variable {n m : ℕ}

/-- The maximum along each row, read at row `r`. -/
theorem rowMax_apply (h : (⟨2, ![n, m]⟩ : Shape).Reduces [1] ⟨1, ![n]⟩) (v : FVec Ideal ⟨2, ![n, m]⟩ .f32) (acc : BitVec FTy.f32.bits)
    (hφ : FKind.Formats .f32) (hacc : acc = FKind.maximumf.neutral .f32 hφ) (r : Fin n) :
    multiReduction .maximumf [1] ⟨1, ![n]⟩ v acc h hφ hacc (ix1 r)
      = Finset.fold max (Ideal.ofBits .f32 acc) (fun k : Fin m => v (ix2 r k)) Finset.univ := by
  rw [multiReduction_maximumf_eq_fold, Shape.Reduces.fold_fiber_r2_a1]
  rfl

/-- The integer sum along each row, read at row `r`. -/
theorem rowCount_apply (h : (⟨2, ![n, m]⟩ : Shape).Reduces [1] ⟨1, ![n]⟩) (v : IVec ⟨2, ![n, m]⟩ 32) (acc : BitVec 32)
    (hacc : acc = IKind.add.neutral) (r : Fin n) :
    multiReductionI .add [1] ⟨1, ![n]⟩ v acc h hacc (ix1 r)
      = Finset.fold IntOp.addi acc (fun k : Fin m => v (ix2 r k)) Finset.univ := by
  rw [multiReductionI_eq_fold, Shape.Reduces.fold_fiber_r2_a1]
  rfl

end Cert.Proof

end
-- ==== Proof.KernelRow.lean ====
/-
  Hand-written, untrusted. THE KERNEL'S BLOCK, ROW BY ROW: each value the kernel body computes from its blocks of 256 rows,
  read at one index, is the row's function of Proof/Spec.lean.
-/
module

public import proofs.«01_k».proof.Defs
public import proofs.«01_k».proof.Proof.Gen.KernelIdeal.Frame
public import proofs.«01_k».proof.Proof.Spec
public import proofs.«01_k».proof.Proof.Reduce

@[expose] public section

set_option maxRecDepth 16384

noncomputable section

namespace Cert.Proof.KernelRow

open Idealize.ShloMosaic Cert.KernelIdeal Cert.KernelIdeal.Gen

variable (X : Vec Ideal S256x3584 .bf16) (G : Vec Ideal S1x3584 .f32)

/-- Row `r` of a block of activations. -/
abbrev row (r : Fin 256) : Fin 3584 → EReal := fun d => X (ix2 r d)

/-- The gain as a function of the lane. -/
abbrev gain : Fin 3584 → EReal := fun d => G (ix2 0 d)

/-! ## The normalised block, its scale and its codes -/

/-- The normalised block. -/
theorem normed_apply (r : Fin 256) (d : Fin 3584) : k0_pay5 X G (ix2 r d) = normed (row X r) (gain G) d := by
  pointwise [k0_pay5]
  rfl

/-- A column of row values, as the vector it is reshaped from. -/
theorem column_apply {φ : FTy} (v : FVec Ideal S256 φ) (r : Fin 256) : shapeCast S256x1 v shapeCasts_S256_S256x1 (ix2 r 0) = v (ix1 r) := by
  pointwise

/-- The largest magnitude of each row. -/
theorem largest_apply (r : Fin 256) : k0_pay6 X G (ix2 r 0) = largest (row X r) (gain G) := by
  unfold k0_pay6
  refine (column_apply _ r).trans ((rowMax_apply _ _ _ _ _ r).trans ?_)
  exact Finset.fold_congr fun d _ => congrArg (FloatOps.absf (F := Ideal) (φ := .f32)) (normed_apply X G r d)

/-- Which of the floats `1 <<< 23 … 255 <<< 23` each entry reaches. -/
def counts (v : FVec Ideal S256x1 .f32) : IVec S256x255 32 :=
  extui 32 (cmpf .oge (broadcastTo S256x255 v broadcasts_S256x1_S256x255)
    (broadcastTo S256x255 (bitcastToFloat (F := Ideal) .f32 (shli (addi (iota .tc S1x255 32 [1] iota_S1x255_d1_w32) (broadcast S1x255 1#32))
      (broadcast S1x255 23#32))) broadcasts_S1x255_S256x255)) natLt_1_32

theorem counts_apply (v : FVec Ideal S256x1 .f32) (r : Fin 256) (k : Fin 255) : counts v (ix2 r k)
    = BitVec.setWidth 32 (BitVec.ofBool (decide
        (Ideal.ofBits .f32 (IntOp.shli .vector (IntOp.addi (BitVec.ofNat 32 k) 1#32) 23#32) ≤ v (ix2 r 0)))) := by
  pointwise [counts]

/-- The exponent the kernel takes from the counts. -/
def exponent (f : IVec S256 32) : IVec S256x1 32 :=
  select (ori (cmpi .eq (shapeCast S256x1 f shapeCasts_S256_S256x1) (broadcast S256x1 0#32))
      (cmpi .eq (shapeCast S256x1 f shapeCasts_S256_S256x1) (broadcast S256x1 255#32)))
    (broadcast S256x1 0#32) (subi (shapeCast S256x1 f shapeCasts_S256_S256x1) (broadcast S256x1 126#32))

theorem exponent_apply (f : IVec S256 32) (r : Fin 256) : exponent f (ix2 r 0)
    = Scalar.select (IntOp.ori (IntOp.cmpi .eq (f (ix1 r)) 0#32) (IntOp.cmpi .eq (f (ix1 r)) 255#32)) (0#32)
        (IntOp.subi (f (ix1 r)) 126#32) := by
  pointwise [exponent]

/-- The targets of a block: largest magnitudes times 1/448. -/
def targets : FVec Ideal S256x1 .f32 := mulf (k0_pay6 X G) (broadcast S256x1 (Scalar.ofBits .f32 0x3B124925#32))

theorem targets_apply (r : Fin 256) : targets X G (ix2 r 0) = target (row X r) (gain G) := by
  unfold targets target
  rw [← largest_apply]
  rfl

theorem pay7_eq : k0_pay7 X G
    = exponent (multiReductionI .add [1] S256 (counts (targets X G)) 0#32 reduces_S256x255_S256 rfl) := rfl

/-- The exponent of each row, before the rows of zeros are set apart. -/
theorem exponent_row (r : Fin 256) : k0_pay7 X G (ix2 r 0)
    = Scalar.select (IntOp.ori (IntOp.cmpi .eq (field (target (row X r) (gain G))) 0#32)
        (IntOp.cmpi .eq (field (target (row X r) (gain G))) 255#32)) (0#32)
        (IntOp.subi (field (target (row X r) (gain G))) 126#32) := by
  have h : multiReductionI .add [1] S256 (counts (targets X G)) 0#32 reduces_S256x255_S256 rfl (ix1 r)
      = field (target (row X r) (gain G)) := by
    refine (rowCount_apply _ _ _ _ r).trans (Finset.fold_congr fun k _ => ?_)
    rw [counts_apply, targets_apply]
  rw [pay7_eq, exponent_apply, h]

/-- The exponent of each row. -/
theorem expo_row (r : Fin 256) : k0_pay8 (k0_pay6 X G) (k0_pay7 X G) (ix2 r 0)
    = kernelExpo (largest (row X r) (gain G)) (target (row X r) (gain G)) := by
  rw [kernelExpo, ← exponent_row, ← largest_apply]
  generalize k0_pay6 X G = A
  generalize k0_pay7 X G = E
  pointwise [k0_pay8]

/-- The scale from the exponent. -/
theorem pay9_apply (A : FVec Ideal S256x1 .f32) (E : IVec S256x1 32) (r : Fin 256) : k0_pay9 A E (ix2 r 0)
    = Ideal.ofBits .f32 (IntOp.shli .vector (IntOp.addi (k0_pay8 A E (ix2 r 0)) 127#32) 23#32) := by
  pointwise [k0_pay9]

/-- The codes from the exponent. -/
theorem pay10_apply (H : FVec Ideal S256x3584 .f32) (A : FVec Ideal S256x1 .f32) (E : IVec S256x1 32) (r : Fin 256) (d : Fin 3584) :
    k0_pay10 H A E (ix2 r d) = min (Ideal.ofBits .f32 0x43E00000#32) (max (Ideal.ofBits .f32 0xC3E00000#32)
      (H (ix2 r d) * Ideal.ofBits .f32
        (IntOp.shli .vector (IntOp.addi (IntOp.subi 0#32 (k0_pay8 A E (ix2 r 0))) 127#32) 23#32))) := by
  pointwise [k0_pay10]

/-- The projected block from codes and scales. -/
theorem pay11_apply (H : FVec Ideal S256x3584 .f32) (A : FVec Ideal S256x1 .f32) (E : IVec S256x1 32)
    (W : Vec Ideal S3584x2304 .fp8e4m3) (S : Vec Ideal S1x2304 .f32) (r : Fin 256) (c : Fin 2304) :
    k0_pay11 H A E W S (ix2 r c) = (∑ k : Fin 3584, k0_pay10 H A E (ix2 r k) * W (ix2 k c)) * k0_pay9 A E (ix2 r 0) * S (ix2 0 c) := by
  pointwise [k0_pay11]

section

variable (hq : ∀ r, target (row X r) (gain G) < pw 126)

include hq

/-- The scale of each row. -/
theorem scale_apply (r : Fin 256) : k0_pay9 (k0_pay6 X G) (k0_pay7 X G) (ix2 r 0) = scale (row X r) (gain G) := by
  rw [pay9_apply, expo_row, scale_eq _ _ (target_zero _ _) (hq r)]
  rfl

/-- The codes of each row. -/
theorem code_apply (r : Fin 256) (d : Fin 3584) :
    k0_pay10 (k0_pay5 X G) (k0_pay6 X G) (k0_pay7 X G) (ix2 r d) = code (row X r) (gain G) d := by
  rw [pay10_apply, expo_row, inverse_eq _ _ (target_zero _ _) (hq r), normed_apply]
  rfl

/-- The projected rows. -/
theorem proj_apply (W : Vec Ideal S3584x2304 .fp8e4m3) (S : Vec Ideal S1x2304 .f32) (r : Fin 256) (c : Fin 2304) :
    k0_pay11 (k0_pay5 X G) (k0_pay6 X G) (k0_pay7 X G) W S (ix2 r c)
      = proj (row X r) (gain G) (fun k c => W (ix2 k c)) (fun c => S (ix2 0 c)) c := by
  rw [pay11_apply, scale_apply X G hq, proj]
  refine congrArg (· * scale (row X r) (gain G) * S (ix2 0 c)) (Finset.sum_congr rfl fun k _ => ?_)
  rw [code_apply X G hq]

end

end Cert.Proof.KernelRow

end
-- ==== Proof.KernelRotate.lean ====
/-
  Hand-written, untrusted. THE KERNEL'S ROTATED HEADS: each head the kernel body stores, read at one index, is the rotated head
  of Proof/Spec.lean.
-/
module

public import proofs.«01_k».proof.Proof.KernelRow

@[expose] public section

set_option maxRecDepth 16384

noncomputable section

namespace Cert.Proof.KernelRow

open Idealize.ShloMosaic Cert.KernelIdeal Cert.KernelIdeal.Gen

variable (P : Vec Ideal S256x1 .i32)

/-- The cosines of a block of positions. -/
abbrev cosines : FVec Ideal S256x128 .f32 := k0_pay15 (iota .tc S1x128 32 [1] iota_S1x128_d1_w32) k0_pay12 k0_pay13 P

/-- The signed sines of a block of positions. -/
abbrev sines : FVec Ideal S256x128 .f32 := k0_pay16 (iota .tc S1x128 32 [1] iota_S1x128_d1_w32) k0_pay12 k0_pay13 P

/-- A head: 128 columns from `o` on times the cosines plus the same columns turned by half a head times the signed sines. -/
def head (o : ℕ) (h : S256x2304.Slices ![0, o] S256x128) (Y : FVec Ideal S256x2304 .f32) (C S : FVec Ideal S256x128 .f32) :
    FVec Ideal S256x128 .bf16 :=
  truncf .bf16 (addf (mulf (extractStridedSlice S256x128 ![0, o] Y h) C)
    (mulf (dynamicRotate 1 64#32 none (extractStridedSlice S256x128 ![0, o] Y h) rotates_S256x128_d1) S)) bitsLt_bf16_f32

theorem head_apply (o : ℕ) (h : S256x2304.Slices ![0, o] S256x128) (ho : o + 128 ≤ 2304) (Y : FVec Ideal S256x2304 .f32)
    (C S : FVec Ideal S256x128 .f32) (r : Fin 256) (d : Fin 128) :
    head o h Y C S (ix2 r d) = Y (ix2 r ⟨o + d, by omega⟩) * C (ix2 r d)
      + Y (ix2 r ⟨o + (d + 128 - 64) % 128, by omega⟩) * S (ix2 r d) := by
  pointwise [head]

/-! ## The angles -/

theorem lane_slt : ∀ d : Fin 128, IntOp.cmpi .slt (BitVec.ofNat 32 d) 64#32 = if (d : ℕ) < 64 then 1#1 else 0#1 := by decide

theorem lane_sub : ∀ d : Fin 128, ¬ (d : ℕ) < 64 → IntOp.subi (BitVec.ofNat 32 d) 64#32 = BitVec.ofNat 32 ((d : ℕ) - 64) := by decide

theorem twice_toInt : ∀ d : Fin 64, (IntOp.muli (2#32) (BitVec.ofNat 32 (d : ℕ))).toInt = 2 * (BitVec.ofNat 32 (d : ℕ)).toInt := by decide

/-- Twice the lane's float is the float of twice the lane. -/
theorem twice_lane (j : ℕ) (hj : j < 64) :
    Ideal.ofBits .f32 0x40000000#32 * FloatOps.sitofp (F := Ideal) .f32 (BitVec.ofNat 32 j)
      = FloatOps.sitofp (F := Ideal) .f32 (IntOp.muli (2#32) (BitVec.ofNat 32 j)) := by
  have h := twice_toInt ⟨j, hj⟩
  have h2 : (Ideal.ofBits .f32 0x40000000#32 : EReal) = ((2 : ℝ) : EReal) := by
    simp [Ideal.ofBits, Ideal.ieee]
    rw [← EReal.coe_mul]
    norm_num
  show _ * (((BitVec.ofNat 32 j).toInt : ℝ) : EReal) = (((IntOp.muli (2#32) (BitVec.ofNat 32 j)).toInt : ℝ) : EReal)
  rw [show (IntOp.muli (2#32) (BitVec.ofNat 32 j)).toInt = 2 * (BitVec.ofNat 32 j).toInt from h, h2, ← EReal.coe_mul]
  push_cast
  rfl

/-- The lane pair a lane belongs to. -/
def pair (d : Fin 128) : ℕ := if (d : ℕ) < 64 then d else d - 64

/-- The kernel's angle at a lane is the angle of its lane pair. -/
theorem angle_eq (p : BitVec 32) (d : Fin 128) :
    FloatOps.sitofp (F := Ideal) .f32 p * Ideal.pow (Ideal.ofBits .f32 0x461C4000#32)
      (0 - Ideal.div (Ideal.ofBits .f32 0x40000000#32 * FloatOps.sitofp (F := Ideal) .f32
        (Scalar.select (IntOp.cmpi .slt (BitVec.ofNat 32 d) 64#32) (BitVec.ofNat 32 d) (IntOp.subi (BitVec.ofNat 32 d) 64#32)))
        (Ideal.ofBits .f32 0x43000000#32)) = angle p (pair d) := by
  have hp : pair d < 64 := by unfold pair; split <;> omega
  have hs : Scalar.select (IntOp.cmpi .slt (BitVec.ofNat 32 d) 64#32) (BitVec.ofNat 32 d) (IntOp.subi (BitVec.ofNat 32 d) 64#32)
      = BitVec.ofNat 32 (pair d) := by
    rw [lane_slt]
    unfold pair
    by_cases h : (d : ℕ) < 64
    · simp [h, Scalar.select]
    · simp [h, Scalar.select, lane_sub d h]
  rw [hs, twice_lane _ hp]
  rfl

theorem cos_apply (r : Fin 256) (d : Fin 128) : cosines P (ix2 r d) = Ideal.cos (angle (P (ix2 r 0)) (pair d)) := by
  rw [← angle_eq]
  unfold cosines
  pointwise [k0_pay15, k0_pay12, k0_pay13, k0_pay14]

theorem sin_apply (r : Fin 256) (d : Fin 128) : sines P (ix2 r d)
    = if (d : ℕ) < 64 then 0 - Ideal.sin (angle (P (ix2 r 0)) (pair d)) else Ideal.sin (angle (P (ix2 r 0)) (pair d)) := by
  have h : sines P (ix2 r d) = Scalar.select (IntOp.cmpi .slt (BitVec.ofNat 32 d) 64#32)
      (0 - Ideal.sin (angle (P (ix2 r 0)) (pair d))) (Ideal.sin (angle (P (ix2 r 0)) (pair d))) := by
    rw [← angle_eq]
    unfold sines
    pointwise [k0_pay16, k0_pay12, k0_pay13, k0_pay14]
  rw [h, lane_slt]
  by_cases hd : (d : ℕ) < 64 <;> simp [hd, Scalar.select]

/-- A head of the block is the rotated head of each of its rows. -/
theorem head_rotated (o : ℕ) (h : S256x2304.Slices ![0, o] S256x128) (ho : o + 128 ≤ 2304) (Y : FVec Ideal S256x2304 .f32)
    (r : Fin 256) (d : Fin 128) :
    head o h Y (cosines P) (sines P) (ix2 r d) = rotated (fun c => Y (ix2 r c)) (P (ix2 r 0)) o ho d := by
  rw [head_apply o h ho, cos_apply, sin_apply]
  unfold rotated pair
  by_cases hd : (d : ℕ) < 64
  · have e : ((d : ℕ) + 128 - 64) % 128 = d + 64 := by omega
    simp only [hd, if_true, dif_pos, e, sub_eq_add_neg, zero_add, mul_neg]
  · have e : ((d : ℕ) + 128 - 64) % 128 = d - 64 := by omega
    simp only [hd, if_false, dif_neg, not_false_eq_true, e]

/-! ## The heads the body stores -/

section

variable (Y : FVec Ideal S256x2304 .f32) (C S : FVec Ideal S256x128 .f32)

theorem pay23_eq : k0_pay23 Y C S = head 384 slices_S256x2304_o0_384_S256x128 Y C S := rfl

theorem pay24_eq : k0_pay24 Y C S = head 512 slices_S256x2304_o0_512_S256x128 Y C S := rfl

theorem pay25_eq : k0_pay25 Y C S = head 640 slices_S256x2304_o0_640_S256x128 Y C S := rfl

theorem pay26_eq : k0_pay26 Y C S = head 768 slices_S256x2304_o0_768_S256x128 Y C S := rfl

theorem pay27_eq : k0_pay27 Y C S = head 896 slices_S256x2304_o0_896_S256x128 Y C S := rfl

theorem pay28_eq : k0_pay28 Y C S = head 1024 slices_S256x2304_o0_1024_S256x128 Y C S := rfl

theorem pay29_eq : k0_pay29 Y C S = head 1152 slices_S256x2304_o0_1152_S256x128 Y C S := rfl

theorem pay30_eq : k0_pay30 Y C S = head 1280 slices_S256x2304_o0_1280_S256x128 Y C S := rfl

theorem pay31_eq : k0_pay31 Y C S = head 1408 slices_S256x2304_o0_1408_S256x128 Y C S := rfl

theorem pay32_eq : k0_pay32 Y C S = head 1536 slices_S256x2304_o0_1536_S256x128 Y C S := rfl

theorem pay2_eq : k0_pay2 Y C S = head 1792 slices_S256x2304_o0_1792_S256x128 Y C S := rfl

theorem pay3_eq : k0_pay3 Y C S = head 1920 slices_S256x2304_o0_1920_S256x128 Y C S := rfl

theorem pay1_eq : k0_pay1 S (k0_pay33 Y) (k0_pay34 Y C) 64#32 = head 1664 slices_S256x2304_o0_1664_S256x128 Y C S := rfl

end

section

variable (Y : FVec Ideal S256x2304 .f32) (I : IVec S1x128 32) (L : IVec S1x128 1) (M : IVec S1x128 32)

theorem pay17_eq : k0_pay17 Y I L M P = head 0 slices_S256x2304_o0_0_S256x128 Y (k0_pay15 I L M P) (k0_pay16 I L M P) := rfl

theorem pay18_eq : k0_pay18 Y I L M P = head 128 slices_S256x2304_o0_128_S256x128 Y (k0_pay15 I L M P) (k0_pay16 I L M P) := rfl

theorem pay22_eq (S : FVec Ideal S256x128 .f32) : k0_pay22 S (k0_pay20 Y I L M P) (k0_pay21 Y)
    = head 256 slices_S256x2304_o0_256_S256x128 Y (k0_pay15 I L M P) S := rfl

end

end Cert.Proof.KernelRow

end
-- ==== Proof.Arrays.lean ====
/-
  Hand-written, untrusted. THE FIVE RESULT ARRAYS as functions of the five operand arrays: row `R` of each is the row's function
  of Proof/Spec.lean at row `R` of the activations and position `R`.
-/
module

public import proofs.«01_k».proof.Proof.Spec
public import Idealize.ShloMosaic.Lib.Pointwise

@[expose] public section

noncomputable section

namespace Cert.Proof

open Idealize.ShloMosaic

/-- The same head at equal rows, positions, columns and lanes. -/
theorem rotated_congr {y y' : Fin 2304 → EReal} {p p' : BitVec 32} {o o' : ℕ} {ho : o + 128 ≤ 2304} {ho' : o' + 128 ≤ 2304}
    {d d' : Fin 128} (hy : y = y') (hp : p = p') (h : o = o') (hd : (d : ℕ) = d') : rotated y p o ho d = rotated y' p' o' ho' d' := by
  subst hy hp h
  rw [Fin.ext hd]

/-- An index of a one-column array is its row. -/
theorem eq_column {n : ℕ} (i : (⟨2, ![n, 1]⟩ : Shape).Idx) : i = ix2 (i 0) (0 : Fin 1) := by
  exact (eq_ix2 i).trans (congrArg (ix2 (n0 := n) (n1 := 1) (i 0)) (Subsingleton.elim (α := Fin 1) (i 1) 0))

variable (X : Vec Ideal ⟨2, ![8192, 3584]⟩ .bf16) (G : Vec Ideal ⟨2, ![1, 3584]⟩ .f32) (W : Vec Ideal ⟨2, ![3584, 2304]⟩ .fp8e4m3)
  (S : Vec Ideal ⟨2, ![1, 2304]⟩ .f32) (P : Vec Ideal ⟨2, ![8192, 1]⟩ .i32)

/-- Row `R` of the activations. -/
abbrev rowOf (R : Fin 8192) : Fin 3584 → EReal := fun d => X (ix2 R d)

/-- The gain as a function of the lane. -/
abbrev gainOf : Fin 3584 → EReal := fun d => G (ix2 0 d)

/-- Row `R` of the projection. -/
abbrev projOf (R : Fin 8192) : Fin 2304 → EReal := proj (rowOf X R) (gainOf G) (fun k c => W (ix2 k c)) (fun c => S (ix2 0 c))

/-- The rotated queries: fourteen heads of 128 columns, from column 0 of the projection. -/
def queries : Vec Ideal ⟨2, ![8192, 1792]⟩ .bf16 := fun i =>
  have h : (i 1 : ℕ) < 1792 := (i 1).isLt
  rotated (projOf X G W S (i 0)) (P (ix2 (i 0) 0)) ((i 1 : ℕ) / 128 * 128) (by omega) ⟨(i 1 : ℕ) % 128, by omega⟩

/-- The rotated keys: two heads, from column 1792 of the projection. -/
def keys : Vec Ideal ⟨2, ![8192, 256]⟩ .bf16 := fun i =>
  have h : (i 1 : ℕ) < 256 := (i 1).isLt
  rotated (projOf X G W S (i 0)) (P (ix2 (i 0) 0)) (1792 + (i 1 : ℕ) / 128 * 128) (by omega) ⟨(i 1 : ℕ) % 128, by omega⟩

/-- The values: the projection from column 2048. -/
def values : Vec Ideal ⟨2, ![8192, 256]⟩ .bf16 := fun i =>
  have h : (i 1 : ℕ) < 256 := (i 1).isLt
  projOf X G W S (i 0) ⟨2048 + (i 1 : ℕ), by omega⟩

theorem queries_apply (R : Fin 8192) (d : Fin 1792) : queries X G W S P (ix2 R d)
    = rotated (projOf X G W S R) (P (ix2 R 0)) ((d : ℕ) / 128 * 128) (by omega) ⟨(d : ℕ) % 128, by omega⟩ := rfl

theorem keys_apply (R : Fin 8192) (d : Fin 256) : keys X G W S P (ix2 R d)
    = rotated (projOf X G W S R) (P (ix2 R 0)) (1792 + (d : ℕ) / 128 * 128) (by omega) ⟨(d : ℕ) % 128, by omega⟩ := rfl

theorem values_apply (R : Fin 8192) (d : Fin 256) : values X G W S (ix2 R d) = projOf X G W S R ⟨2048 + (d : ℕ), by omega⟩ := rfl

/-- The codes. -/
def codes : Vec Ideal ⟨2, ![8192, 3584]⟩ .fp8e4m3 := fun i => code (rowOf X (i 0)) (gainOf G) (i 1)

/-- The scales. -/
def scales : Vec Ideal ⟨2, ![8192, 1]⟩ .f32 := fun i => scale (rowOf X (i 0)) (gainOf G)

end Cert.Proof

end
-- ==== Proof.KernelArrays.lean ====
/-
  Hand-written, untrusted. THE KERNEL'S RESULT ARRAYS after its run are the arrays of Proof/Arrays.lean, of the operand arrays
  the kernel call is given, where every row's target is below `2 ^ 126`.
-/
module

public import proofs.«01_k».proof.Proof.KernelRotate
public import proofs.«01_k».proof.Proof.Arrays
public import Idealize.ShloMosaic.Lib.Pipeline.ValueKit

@[expose] public section

set_option maxRecDepth 16384

noncomputable section

namespace Cert.Proof.KernelRow

open Idealize.ShloMosaic Cert.KernelIdeal Cert.KernelIdeal.Gen Idealize.ShloMosaic.TcCoe
open Idealize.ShloMosaic.Pipeline (Dat)

/-! ## What the body leaves in each result block -/

section

variable (X : Vec Ideal S256x3584 .bf16) (G : Vec Ideal S1x3584 .f32) (W : Vec Ideal S3584x2304 .fp8e4m3)
  (S : Vec Ideal S1x2304 .f32) (P : Vec Ideal S256x1 .i32)

/-- The projected block. -/
abbrev block : FVec Ideal S256x2304 .f32 := k0_pay11 (k0_pay5 X G) (k0_pay6 X G) (k0_pay7 X G) W S

/-- A head stored at column `o` of a block of heads that starts at column `b` of the projection: where it lands, the block holds
    the rotated head of that lane. -/
theorem head_at (Y : FVec Ideal S256x2304 .f32) (o e b : ℕ) (h : S256x2304.Slices ![0, o] S256x128) (ho : o + 128 ≤ 2304)
    (hob : o = b + e) (he : e % 128 = 0) (x : S256x128.Idx) (r : Fin 256) (k : ℕ) (h0 : (r : ℕ) = x 0) (h1 : k = e + x 1)
    (hk : b + k / 128 * 128 + 128 ≤ 2304) :
    head o h Y (cosines P) (sines P) x
      = rotated (fun c => Y (ix2 r c)) (P (ix2 r 0)) (b + k / 128 * 128) hk ⟨k % 128, Nat.mod_lt _ (by norm_num)⟩ := by
  have hx : (x 1 : ℕ) < 128 := (x 1).isLt
  have hr : r = x 0 := Fin.ext h0
  subst hr
  refine (congrArg _ (eq_ix2 x)).trans ((head_rotated P o h ho Y (x 0) (x 1)).trans ?_)
  exact rotated_congr rfl rfl (by omega) (by show (x 1 : ℕ) = k % 128; omega)

theorem ld0 : View.ld X r0_0 = X := View.ld_unit_zero (funext fun a => by fin_cases a <;> rfl) _ _

theorem ld1 : View.ld G r0_1 = G := View.ld_unit_zero (funext fun a => by fin_cases a <;> rfl) _ _

theorem ld2 : View.ld P r0_2 = P := View.ld_unit_zero (funext fun a => by fin_cases a <;> rfl) _ _

theorem ld3 : View.ld W r0_3 = W := View.ld_unit_zero (funext fun a => by fin_cases a <;> rfl) _ _

theorem ld4 : View.ld S r0_4 = S := View.ld_unit_zero (funext fun a => by fin_cases a <;> rfl) _ _

/-- Fourteen heads side by side. -/
def heads (Y : FVec Ideal S256x2304 .f32) : Vec Ideal S256x1792 .bf16 :=
  View.canon [
      ⟨r0_18, head 1664 slices_S256x2304_o0_1664_S256x128 Y (cosines P) (sines P)⟩,
      ⟨r0_17, head 1536 slices_S256x2304_o0_1536_S256x128 Y (cosines P) (sines P)⟩,
      ⟨r0_16, head 1408 slices_S256x2304_o0_1408_S256x128 Y (cosines P) (sines P)⟩,
      ⟨r0_15, head 1280 slices_S256x2304_o0_1280_S256x128 Y (cosines P) (sines P)⟩,
      ⟨r0_14, head 1152 slices_S256x2304_o0_1152_S256x128 Y (cosines P) (sines P)⟩,
      ⟨r0_13, head 1024 slices_S256x2304_o0_1024_S256x128 Y (cosines P) (sines P)⟩,
      ⟨r0_12, head 896 slices_S256x2304_o0_896_S256x128 Y (cosines P) (sines P)⟩,
      ⟨r0_11, head 768 slices_S256x2304_o0_768_S256x128 Y (cosines P) (sines P)⟩,
      ⟨r0_10, head 640 slices_S256x2304_o0_640_S256x128 Y (cosines P) (sines P)⟩,
      ⟨r0_9, head 512 slices_S256x2304_o0_512_S256x128 Y (cosines P) (sines P)⟩,
      ⟨r0_8, head 384 slices_S256x2304_o0_384_S256x128 Y (cosines P) (sines P)⟩,
      ⟨r0_7, head 256 slices_S256x2304_o0_256_S256x128 Y (cosines P) (sines P)⟩,
      ⟨r0_6, head 128 slices_S256x2304_o0_128_S256x128 Y (cosines P) (sines P)⟩,
      ⟨r0_5, head 0 slices_S256x2304_o0_0_S256x128 Y (cosines P) (sines P)⟩]

theorem heads_apply (Y : FVec Ideal S256x2304 .f32) (r : Fin 256) (d : Fin 1792) : heads P Y (ix2 r d)
    = rotated (fun c => Y (ix2 r c)) (P (ix2 r 0)) (0 + (d : ℕ) / 128 * 128) (by omega) ⟨(d : ℕ) % 128, by omega⟩ := by
  unfold heads
  canon_tiles x h
  · exact head_at P Y 1664 1664 0 _ (by norm_num) (by norm_num) (by norm_num) x r d (by simpa using h0) (by simpa using h1) _
  · exact head_at P Y 1536 1536 0 _ (by norm_num) (by norm_num) (by norm_num) x r d (by simpa using h0) (by simpa using h1) _
  · exact head_at P Y 1408 1408 0 _ (by norm_num) (by norm_num) (by norm_num) x r d (by simpa using h0) (by simpa using h1) _
  · exact head_at P Y 1280 1280 0 _ (by norm_num) (by norm_num) (by norm_num) x r d (by simpa using h0) (by simpa using h1) _
  · exact head_at P Y 1152 1152 0 _ (by norm_num) (by norm_num) (by norm_num) x r d (by simpa using h0) (by simpa using h1) _
  · exact head_at P Y 1024 1024 0 _ (by norm_num) (by norm_num) (by norm_num) x r d (by simpa using h0) (by simpa using h1) _
  · exact head_at P Y 896 896 0 _ (by norm_num) (by norm_num) (by norm_num) x r d (by simpa using h0) (by simpa using h1) _
  · exact head_at P Y 768 768 0 _ (by norm_num) (by norm_num) (by norm_num) x r d (by simpa using h0) (by simpa using h1) _
  · exact head_at P Y 640 640 0 _ (by norm_num) (by norm_num) (by norm_num) x r d (by simpa using h0) (by simpa using h1) _
  · exact head_at P Y 512 512 0 _ (by norm_num) (by norm_num) (by norm_num) x r d (by simpa using h0) (by simpa using h1) _
  · exact head_at P Y 384 384 0 _ (by norm_num) (by norm_num) (by norm_num) x r d (by simpa using h0) (by simpa using h1) _
  · exact head_at P Y 256 256 0 _ (by norm_num) (by norm_num) (by norm_num) x r d (by simpa using h0) (by simpa using h1) _
  · exact head_at P Y 128 128 0 _ (by norm_num) (by norm_num) (by norm_num) x r d (by simpa using h0) (by simpa using h1) _
  · exact head_at P Y 0 0 0 _ (by norm_num) (by norm_num) (by norm_num) x r d (by simpa using h0) (by simpa using h1) _

/-- Two heads side by side. -/
def twoHeads (Y : FVec Ideal S256x2304 .f32) : Vec Ideal S256x256 .bf16 :=
  View.canon [
      ⟨r0_20, head 1920 slices_S256x2304_o0_1920_S256x128 Y (cosines P) (sines P)⟩,
      ⟨r0_19, head 1792 slices_S256x2304_o0_1792_S256x128 Y (cosines P) (sines P)⟩]

theorem twoHeads_apply (Y : FVec Ideal S256x2304 .f32) (r : Fin 256) (d : Fin 256) : twoHeads P Y (ix2 r d)
    = rotated (fun c => Y (ix2 r c)) (P (ix2 r 0)) (1792 + (d : ℕ) / 128 * 128) (by omega) ⟨(d : ℕ) % 128, by omega⟩ := by
  unfold twoHeads
  canon_tiles x h
  · exact head_at P Y 1920 128 1792 _ (by norm_num) (by norm_num) (by norm_num) x r d (by simpa using h0) (by simpa using h1) _
  · exact head_at P Y 1792 0 1792 _ (by norm_num) (by norm_num) (by norm_num) x r d (by simpa using h0) (by simpa using h1) _

/-- The block of queries. -/
theorem out5_eq : out0_5 X G W S P = heads P (block X G W S) := by
  unfold_out out0_5
  rw [ld0, ld1, ld2, ld3, ld4]
  simp only [pay17_eq, pay18_eq, pay22_eq, pay23_eq, pay24_eq, pay25_eq, pay26_eq, pay27_eq, pay28_eq, pay29_eq, pay30_eq, pay31_eq, pay32_eq, pay1_eq]
  rfl

/-- The block of keys. -/
theorem out6_eq : out0_6 X G W S P = twoHeads P (block X G W S) := by
  unfold_out out0_6
  rw [ld0, ld1, ld2, ld3, ld4]
  simp only [pay2_eq, pay3_eq]
  rfl

/-- The block of values. -/
theorem out7_apply (r : Fin 256) (d : Fin 256) : out0_7 X G W S P (ix2 r d)
    = block X G W S (ix2 r ⟨2048 + (d : ℕ), by omega⟩) := by
  unfold_out out0_7
  frame_out
  show k0_pay4 (block X G W S) (ix2 r d) = _
  generalize block X G W S = Y
  pointwise [k0_pay4]

/-- The block of codes. -/
theorem out8_eq : out0_8 X G W S P = k0_pay10 (k0_pay5 X G) (k0_pay6 X G) (k0_pay7 X G) := by
  unfold_out out0_8
  frame_out

/-- The block of scales. -/
theorem out9_eq : out0_9 X G W S P = k0_pay9 (k0_pay6 X G) (k0_pay7 X G) := by
  unfold_out out0_9
  frame_out

end

/-! ## The arrays after the run -/

section

variable (m : (ℓ : Loc nD τ sig) → Buf (Elt Ideal) ℓ)

/-- Every window's block index at each point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The array's row that is row `r` of block `t`. -/
def at_ (t : Fin cfg0.N) (r : Fin 256) : Fin 8192 := ⟨t.val * 256 + r, by have h : t.val < 32 := t.isLt; omega⟩

theorem iblk0_apply (c : Dev nD) (t : Fin cfg0.N) (r : Fin 256) (d : Fin 3584) :
    iblk m c 0 t (ix2 r d) = V m c main_v0 (ix2 (at_ t r) d) := by
  unfold at_; blk_ext [iblk, idx t]

theorem iblk1 (c : Dev nD) (t : Fin cfg0.N) : iblk m c 1 t = V m c main_v1 := by
  funext i; blk_ext [iblk, idx t]

theorem iblk2 (c : Dev nD) (t : Fin cfg0.N) : iblk m c 2 t = V m c main_arg2 := by
  funext i; blk_ext [iblk, idx t]

theorem iblk3 (c : Dev nD) (t : Fin cfg0.N) : iblk m c 3 t = V m c main_v2 := by
  funext i; blk_ext [iblk, idx t]

theorem iblk4_apply (c : Dev nD) (t : Fin cfg0.N) (r : Fin 256) :
    iblk m c 4 t (ix2 r 0) = V m c main_v3 (ix2 (at_ t r) 0) := by
  unfold at_; blk_ext [iblk, idx t]

/-- Where element `(r, d)` of block `t` of the queries lies in the array. -/
theorem emb5 (t : Fin cfg0.N) (r : Fin 256) (d : Fin 1792) : ((cfg0.win 5).blk t).view.emb (ix2 r d) = ix2 (at_ t r) d := by
  unfold at_; blk_ext [idx t]

/-- Where element `(r, d)` of block `t` of the keys lies in the array. -/
theorem emb6 (t : Fin cfg0.N) (r : Fin 256) (d : Fin 256) : ((cfg0.win 6).blk t).view.emb (ix2 r d) = ix2 (at_ t r) d := by
  unfold at_; blk_ext [idx t]

/-- Where element `(r, d)` of block `t` of the values lies in the array. -/
theorem emb7 (t : Fin cfg0.N) (r : Fin 256) (d : Fin 256) : ((cfg0.win 7).blk t).view.emb (ix2 r d) = ix2 (at_ t r) d := by
  unfold at_; blk_ext [idx t]

/-- Where element `(r, d)` of block `t` of the codes lies in the array. -/
theorem emb8 (t : Fin cfg0.N) (r : Fin 256) (d : Fin 3584) : ((cfg0.win 8).blk t).view.emb (ix2 r d) = ix2 (at_ t r) d := by
  unfold at_; blk_ext [idx t]

/-- Where element `(r, d)` of block `t` of the scales lies in the array. -/
theorem emb9 (t : Fin cfg0.N) (r : Fin 256) (d : Fin 1) : ((cfg0.win 9).blk t).view.emb (ix2 r d) = ix2 (at_ t r) d := by
  unfold at_; blk_ext [idx t]

/-- Row `r` of block `t` of the activations is the array's row. -/
theorem row_iblk (c : Dev nD) (t : Fin cfg0.N) (r : Fin 256) : row (iblk m c 0 t) r = rowOf (V m c main_v0) (at_ t r) :=
  funext fun d => iblk0_apply m c t r d

variable (c : Dev nD) (hq : ∀ R, target (rowOf (V m c main_v0) R) (gainOf (V m c main_v1)) < pw 126)

include hq

/-- The targets of a block are bounded as the array's are. -/
theorem bound_iblk (t : Fin cfg0.N) (r : Fin 256) : target (row (iblk m c 0 t) r) (gain (V m c main_v1)) < pw 126 := by
  rw [row_iblk]
  exact hq _

/-- The projected block is the projection's block. -/
theorem block_iblk (t : Fin cfg0.N) (r : Fin 256) (d : Fin 2304) :
    block (iblk m c 0 t) (V m c main_v1) (V m c main_arg2) (V m c main_v2) (ix2 r d)
      = projOf (V m c main_v0) (V m c main_v1) (V m c main_arg2) (V m c main_v2) (at_ t r) d := by
  refine (proj_apply _ _ (bound_iblk m c hq t) _ _ r d).trans ?_
  rw [row_iblk]

/-- The array of queries. -/
theorem final5 : (dats m 0 c).arrAt 5 cfg0.N
    = queries (V m c main_v0) (V m c main_v1) (V m c main_arg2) (V m c main_v2) (V m c main_v3) := by
  refine (dats m 0 c).arrAt_eq_of_covers 5 _ (by decide +kernel) fun t hf y => ?_
  blk_simp
  rw [after0_5, out5_eq, iblk1, iblk2, iblk3]
  have key : ∀ (r : Fin 256) (d : Fin 1792), heads (iblk m c 4 t) (block (iblk m c 0 t) (V m c main_v1) (V m c main_arg2) (V m c main_v2)) (ix2 r d)
      = queries (V m c main_v0) (V m c main_v1) (V m c main_arg2) (V m c main_v2) (V m c main_v3) (((cfg0.win 5).blk t).view.emb (ix2 r d)) := by
    intro r d
    rw [emb5, queries_apply, heads_apply]
    exact rotated_congr (funext fun k => block_iblk m c hq t r k) (iblk4_apply m c t r) (Nat.zero_add _) rfl
  have h := key (y 0) (y 1)
  rwa [← eq_ix2 (n0 := 256) (n1 := 1792) y] at h

/-- The array of keys. -/
theorem final6 : (dats m 0 c).arrAt 6 cfg0.N
    = keys (V m c main_v0) (V m c main_v1) (V m c main_arg2) (V m c main_v2) (V m c main_v3) := by
  refine (dats m 0 c).arrAt_eq_of_covers 6 _ (by decide +kernel) fun t hf y => ?_
  blk_simp
  rw [after0_6, out6_eq, iblk1, iblk2, iblk3]
  have key : ∀ (r : Fin 256) (d : Fin 256), twoHeads (iblk m c 4 t) (block (iblk m c 0 t) (V m c main_v1) (V m c main_arg2) (V m c main_v2)) (ix2 r d)
      = keys (V m c main_v0) (V m c main_v1) (V m c main_arg2) (V m c main_v2) (V m c main_v3) (((cfg0.win 6).blk t).view.emb (ix2 r d)) := by
    intro r d
    rw [emb6, keys_apply, twoHeads_apply]
    exact rotated_congr (funext fun k => block_iblk m c hq t r k) (iblk4_apply m c t r) rfl rfl
  have h := key (y 0) (y 1)
  rwa [← eq_ix2 (n0 := 256) (n1 := 256) y] at h

/-- The array of values. -/
theorem final7 : (dats m 0 c).arrAt 7 cfg0.N
    = values (V m c main_v0) (V m c main_v1) (V m c main_arg2) (V m c main_v2) := by
  refine (dats m 0 c).arrAt_eq_of_covers 7 _ (by decide +kernel) fun t hf y => ?_
  blk_simp
  rw [after0_7, iblk1, iblk2, iblk3]
  have key : ∀ (r : Fin 256) (d : Fin 256), out0_7 (iblk m c 0 t) (V m c main_v1) (V m c main_arg2) (V m c main_v2) (iblk m c 4 t) (ix2 r d)
      = values (V m c main_v0) (V m c main_v1) (V m c main_arg2) (V m c main_v2) (((cfg0.win 7).blk t).view.emb (ix2 r d)) := by
    intro r d
    rw [emb7, values_apply, out7_apply]
    exact block_iblk m c hq t r _
  have h := key (y 0) (y 1)
  rwa [← eq_ix2 (n0 := 256) (n1 := 256) y] at h

/-- The array of codes. -/
theorem final8 : (dats m 0 c).arrAt 8 cfg0.N
    = codes (V m c main_v0) (V m c main_v1) := by
  refine (dats m 0 c).arrAt_eq_of_covers 8 _ (by decide +kernel) fun t hf y => ?_
  blk_simp
  rw [after0_8, out8_eq, iblk1]
  have key : ∀ (r : Fin 256) (d : Fin 3584), k0_pay10 (k0_pay5 (iblk m c 0 t) (V m c main_v1)) (k0_pay6 (iblk m c 0 t) (V m c main_v1)) (k0_pay7 (iblk m c 0 t) (V m c main_v1)) (ix2 r d)
      = codes (V m c main_v0) (V m c main_v1) (((cfg0.win 8).blk t).view.emb (ix2 r d)) := by
    intro r d
    rw [emb8, code_apply _ _ (bound_iblk m c hq t), row_iblk]
    rfl
  have h := key (y 0) (y 1)
  rwa [← eq_ix2 (n0 := 256) (n1 := 3584) y] at h

/-- The array of scales. -/
theorem final9 : (dats m 0 c).arrAt 9 cfg0.N
    = scales (V m c main_v0) (V m c main_v1) := by
  refine (dats m 0 c).arrAt_eq_of_covers 9 _ (by decide +kernel) fun t hf y => ?_
  blk_simp
  rw [after0_9, out9_eq, iblk1]
  have key : ∀ (r : Fin 256) (d : Fin 1), k0_pay9 (k0_pay6 (iblk m c 0 t) (V m c main_v1)) (k0_pay7 (iblk m c 0 t) (V m c main_v1)) (ix2 r d)
      = scales (V m c main_v0) (V m c main_v1) (((cfg0.win 9).blk t).view.emb (ix2 r d)) := by
    intro r d
    rw [emb9, Subsingleton.elim d 0, scale_apply _ _ (bound_iblk m c hq t), row_iblk]
    rfl
  have h := key (y 0) (y 1)
  rwa [← eq_ix2 (n0 := 256) (n1 := 1) y] at h

end

end Cert.Proof.KernelRow

end
-- ==== Proof.ReferenceRow.lean ====
/-
  Hand-written, untrusted. THE REFERENCE, ROW BY ROW: each value the reference computes from its whole arrays, read at one
  index, is the row's function of Proof/Spec.lean.
-/
module

public import proofs.«01_k».proof.Defs
public import proofs.«01_k».proof.Proof.Gen.ReferenceIdeal.Frame
public import proofs.«01_k».proof.Proof.Spec
public import proofs.«01_k».proof.Proof.Reduce

@[expose] public section

set_option maxRecDepth 16384

noncomputable section

namespace Cert.Proof.ReferenceRow

open Idealize.ShloMosaic Cert.ReferenceIdeal Cert.ReferenceIdeal.Gen

variable (X : Vec Ideal S8192x3584 .bf16) (G : Vec Ideal S1x3584 .f32)

/-- Row `r` of the activations. -/
abbrev row (r : Fin 8192) : Fin 3584 → EReal := fun d => X (ix2 r d)

/-- The gain as a function of the lane. -/
abbrev gain : Fin 3584 → EReal := fun d => G (ix2 0 d)

/-! ## The normalised rows, their scales and their codes -/

/-- The normalised rows. -/
theorem normed_apply (r : Fin 8192) (d : Fin 3584) : k0_pay4 X G (ix2 r d) = normed (row X r) (gain G) d := by
  pointwise [k0_pay4]
  rfl

/-- A column of row values, as the vector it is reshaped from. -/
theorem column_apply {φ : FTy} (v : FVec Ideal S8192 φ) (r : Fin 8192) :
    shapeCast S8192x1 v shapeCasts_S8192_S8192x1 (ix2 r 0) = v (ix1 r) := by
  pointwise

/-- The largest magnitudes. -/
def magnitudes : FVec Ideal S8192x1 .f32 :=
  shapeCast S8192x1 (multiReduction .maximumf [1] S8192 (absf (k0_pay4 X G)) 0xFF800000#32 reduces_S8192x3584_S8192 (.inl rfl) rfl)
    shapeCasts_S8192_S8192x1

theorem magnitudes_apply (r : Fin 8192) : magnitudes X G (ix2 r 0) = largest (row X r) (gain G) := by
  unfold magnitudes
  refine (column_apply _ r).trans ((rowMax_apply _ _ _ _ _ r).trans ?_)
  exact Finset.fold_congr fun d _ => congrArg (FloatOps.absf (F := Ideal) (φ := .f32)) (normed_apply X G r d)

/-- The targets. -/
def targets : FVec Ideal S8192x1 .f32 := mulf (magnitudes X G) (broadcast S8192x1 (Scalar.ofBits .f32 0x3B124925#32))

/-- A column times 1/448. -/
theorem times_apply (A : FVec Ideal S8192x1 .f32) (r : Fin 8192) :
    mulf A (broadcast S8192x1 (Scalar.ofBits .f32 0x3B124925#32)) (ix2 r 0) = A (ix2 r 0) * Ideal.ofBits .f32 0x3B124925#32 := by
  pointwise

theorem targets_apply (r : Fin 8192) : targets X G (ix2 r 0) = target (row X r) (gain G) :=
  (times_apply (magnitudes X G) r).trans (by rw [magnitudes_apply, target])

/-- The candidate exponents `-125 … 127`. -/
def candidates : FVec Ideal S1x253 .f32 :=
  subf (sitofp .f32 (iota .tc S1x253 32 [1] iota_S1x253_d1_w32)) (broadcast S1x253 (Scalar.ofBits .f32 0x42FA0000#32))

theorem candidates_apply (k : Fin 253) : candidates (ix2 0 k)
    = FloatOps.sitofp (F := Ideal) .f32 (BitVec.ofNat 32 k) - Ideal.ofBits .f32 0x42FA0000#32 := by
  pointwise [candidates]

/-- Each candidate where its power of two exceeds the target, 127 elsewhere. -/
def trials (v : FVec Ideal S8192x1 .f32) (u : FVec Ideal S1x253 .f32) : FVec Ideal S8192x253 .f32 :=
  select (cmpf .olt (broadcastTo S8192x253 v broadcasts_S8192x1_S8192x253) (broadcastTo S8192x253 (exp2 u) broadcasts_S1x253_S8192x253))
    (broadcastTo S8192x253 (shapeCast S1x253 u shapeCasts_S1x253_S1x253) broadcasts_S1x253_S8192x253)
    (broadcast S8192x253 (Scalar.ofBits .f32 0x42FE0000#32))

theorem trials_apply (v : FVec Ideal S8192x1 .f32) (u : FVec Ideal S1x253 .f32) (r : Fin 8192) (k : Fin 253) : trials v u (ix2 r k)
    = if v (ix2 r 0) < Ideal.exp2 (u (ix2 0 k)) then u (ix2 0 k) else Ideal.ofBits .f32 0x42FE0000#32 := by
  pointwise [trials]
  rfl

/-- The least of the trials, 0 where the target is below the least normal float. -/
def least (v : FVec Ideal S8192x1 .f32) (t : FVec Ideal S8192x253 .f32) : FVec Ideal S8192x1 .f32 :=
  select (cmpf .olt v (broadcast S8192x1 (Scalar.ofBits .f32 0x00800000#32))) (broadcast S8192x1 (Scalar.ofBits .f32 0x00000000#32))
    (shapeCast S8192x1 (multiReduction .minimumf [1] S8192 t 0x7F800000#32 reduces_S8192x253_S8192 (.inl rfl) rfl) shapeCasts_S8192_S8192x1)

theorem least_apply (v : FVec Ideal S8192x1 .f32) (t : FVec Ideal S8192x253 .f32) (r : Fin 8192) : least v t (ix2 r 0)
    = if v (ix2 r 0) < Ideal.ofBits .f32 0x00800000#32 then 0
      else Finset.fold min (Ideal.ofBits .f32 0x7F800000#32) (fun k : Fin 253 => t (ix2 r k)) Finset.univ := by
  pointwise [least]

theorem pay5_eq : k0_pay5 X G = least (targets X G) (trials (targets X G) candidates) := rfl

/-- The exponents. -/
theorem expo_row (r : Fin 8192) : k0_pay5 X G (ix2 r 0) = expo (target (row X r) (gain G)) := by
  rw [pay5_eq, least_apply, targets_apply, expo]
  refine congrArg (ite _ 0) (Finset.fold_congr fun k _ => ?_)
  rw [trials_apply, targets_apply, candidates_apply]

/-- The scale from the exponent. -/
theorem pay8_apply (E : FVec Ideal S8192x1 .f32) (r : Fin 8192) : k0_pay8 E (ix2 r 0) = Ideal.exp2 (E (ix2 r 0)) := rfl

/-- The scales. -/
theorem scale_apply (r : Fin 8192) : k0_pay8 (k0_pay5 X G) (ix2 r 0) = scale (row X r) (gain G) := by
  rw [pay8_apply, expo_row, scale]

/-- Rows over their scales. -/
def quotients (H : FVec Ideal S8192x3584 .f32) (E : FVec Ideal S8192x1 .f32) : FVec Ideal S8192x3584 .f32 :=
  mulf H (broadcastTo S8192x3584 (exp2 (subf (broadcast S8192x1 (Scalar.ofBits .f32 0x00000000#32)) E)) broadcasts_S8192x1_S8192x3584)

theorem quotients_apply (H : FVec Ideal S8192x3584 .f32) (E : FVec Ideal S8192x1 .f32) (r : Fin 8192) (d : Fin 3584) :
    quotients H E (ix2 r d) = H (ix2 r d) * Ideal.exp2 (0 - E (ix2 r 0)) := by
  pointwise [quotients]
  rfl

theorem pay6_eq : k0_pay6 X G = quotients (k0_pay4 X G) (k0_pay5 X G) := by
  rw [k0_pay6, quotients]

theorem pay7_apply (H : FVec Ideal S8192x3584 .f32) (r : Fin 8192) (d : Fin 3584) :
    k0_pay7 H (ix2 r d) = min (Ideal.ofBits .f32 0x43E00000#32) (max (Ideal.ofBits .f32 0xC3E00000#32) (H (ix2 r d))) := by
  pointwise [k0_pay7]

/-- The codes. -/
theorem code_apply (r : Fin 8192) (d : Fin 3584) : k0_pay7 (k0_pay6 X G) (ix2 r d) = code (row X r) (gain G) d := by
  rw [pay7_apply, pay6_eq, quotients_apply, normed_apply, expo_row, code]

/-- The projected rows from codes and scales. -/
theorem pay9_apply (E : FVec Ideal S8192x1 .f32) (H : FVec Ideal S8192x3584 .f32) (W : Vec Ideal S3584x2304 .fp8e4m3)
    (S : Vec Ideal S1x2304 .f32) (r : Fin 8192) (c : Fin 2304) :
    k0_pay9 E H W S (ix2 r c) = (∑ k : Fin 3584, k0_pay7 H (ix2 r k) * W (ix2 k c)) * k0_pay8 E (ix2 r 0) * S (ix2 0 c) := by
  pointwise [k0_pay9]

/-- The projected rows. -/
theorem proj_apply (W : Vec Ideal S3584x2304 .fp8e4m3) (S : Vec Ideal S1x2304 .f32) (r : Fin 8192) (c : Fin 2304) :
    k0_pay9 (k0_pay5 X G) (k0_pay6 X G) W S (ix2 r c)
      = proj (row X r) (gain G) (fun k c => W (ix2 k c)) (fun c => S (ix2 0 c)) c := by
  rw [pay9_apply, scale_apply, proj]
  refine congrArg (· * scale (row X r) (gain G) * S (ix2 0 c)) (Finset.sum_congr rfl fun k _ => ?_)
  rw [code_apply]

/-! ## The rotation -/

variable (P : Vec Ideal S8192x1 .i32)

theorem cos_apply (r : Fin 8192) (d : Fin 64) : k0_pay14 P (ix3 r 0 d) = Ideal.cos (angle (P (ix2 r 0)) d) := by
  pointwise [k0_pay14, k0_pay13]
  rfl

theorem sin_apply (r : Fin 8192) (d : Fin 64) : k0_pay15 P (ix3 r 0 d) = Ideal.sin (angle (P (ix2 r 0)) d) := by
  pointwise [k0_pay15, k0_pay13]
  rfl

/-- The queries from the heads. -/
theorem pay1_apply (Y : FVec Ideal S8192x14x128 .f32) (C S : FVec Ideal S8192x1x64 .f32) (r : Fin 8192) (d : Fin 1792) :
    k0_pay1 Y C S (ix2 r d)
      = if h : (d : ℕ) % 128 < 64 then
          Y (ix3 r ⟨d / 128, by omega⟩ ⟨d % 128, by omega⟩) * C (ix3 r 0 ⟨d % 128, h⟩)
            - Y (ix3 r ⟨d / 128, by omega⟩ ⟨64 + d % 128, by omega⟩) * S (ix3 r 0 ⟨d % 128, h⟩)
        else
          Y (ix3 r ⟨d / 128, by omega⟩ ⟨64 + (d % 128 - 64), by omega⟩) * C (ix3 r 0 ⟨d % 128 - 64, by omega⟩)
            + Y (ix3 r ⟨d / 128, by omega⟩ ⟨d % 128 - 64, by omega⟩) * S (ix3 r 0 ⟨d % 128 - 64, by omega⟩) := by
  pointwise [k0_pay1]

/-- The keys from the heads. -/
theorem pay2_apply (Y : FVec Ideal S8192x2x128 .f32) (C S : FVec Ideal S8192x1x64 .f32) (r : Fin 8192) (d : Fin 256) :
    k0_pay2 Y C S (ix2 r d)
      = if h : (d : ℕ) % 128 < 64 then
          Y (ix3 r ⟨d / 128, by omega⟩ ⟨d % 128, by omega⟩) * C (ix3 r 0 ⟨d % 128, h⟩)
            - Y (ix3 r ⟨d / 128, by omega⟩ ⟨64 + d % 128, by omega⟩) * S (ix3 r 0 ⟨d % 128, h⟩)
        else
          Y (ix3 r ⟨d / 128, by omega⟩ ⟨64 + (d % 128 - 64), by omega⟩) * C (ix3 r 0 ⟨d % 128 - 64, by omega⟩)
            + Y (ix3 r ⟨d / 128, by omega⟩ ⟨d % 128 - 64, by omega⟩) * S (ix3 r 0 ⟨d % 128 - 64, by omega⟩) := by
  pointwise [k0_pay2]

variable (E : FVec Ideal S8192x1 .f32) (H : FVec Ideal S8192x3584 .f32) (W : Vec Ideal S3584x2304 .fp8e4m3) (S : Vec Ideal S1x2304 .f32)

theorem pay10_apply (r : Fin 8192) (h : Fin 14) (d : Fin 128) :
    k0_pay10 E H W S (ix3 r h d) = k0_pay9 E H W S (ix2 r ⟨h * 128 + d, by omega⟩) := by
  unfold k0_pay10
  generalize k0_pay9 E H W S = Y
  pointwise

theorem pay11_apply (r : Fin 8192) (h : Fin 2) (d : Fin 128) :
    k0_pay11 E H W S (ix3 r h d) = k0_pay9 E H W S (ix2 r ⟨1792 + (h * 128 + d), by omega⟩) := by
  unfold k0_pay11
  generalize k0_pay9 E H W S = Y
  pointwise

theorem pay3_apply (r : Fin 8192) (d : Fin 256) :
    k0_pay3 (k0_pay12 E H W S) (ix2 r d) = k0_pay9 E H W S (ix2 r ⟨2048 + d, by omega⟩) := by
  unfold k0_pay12
  generalize k0_pay9 E H W S = Y
  pointwise [k0_pay3]

/-- The queries are the rotated heads of each row. -/
theorem query_rotated (r : Fin 8192) (d : Fin 1792) :
    k0_pay1 (k0_pay10 E H W S) (k0_pay14 P) (k0_pay15 P) (ix2 r d)
      = rotated (fun c => k0_pay9 E H W S (ix2 r c)) (P (ix2 r 0)) ((d : ℕ) / 128 * 128) (by omega) ⟨d % 128, by omega⟩ := by
  rw [pay1_apply]
  unfold rotated
  by_cases hd : (d : ℕ) % 128 < 64
  · simp only [hd, dif_pos, pay10_apply, cos_apply, sin_apply, Nat.add_comm 64]
  · have e : 64 + ((d : ℕ) % 128 - 64) = d % 128 := by omega
    simp only [hd, dif_neg, not_false_eq_true, pay10_apply, cos_apply, sin_apply, e]

/-- The keys are the rotated heads of each row. -/
theorem key_rotated (r : Fin 8192) (d : Fin 256) :
    k0_pay2 (k0_pay11 E H W S) (k0_pay14 P) (k0_pay15 P) (ix2 r d)
      = rotated (fun c => k0_pay9 E H W S (ix2 r c)) (P (ix2 r 0)) (1792 + (d : ℕ) / 128 * 128) (by omega) ⟨d % 128, by omega⟩ := by
  rw [pay2_apply]
  unfold rotated
  by_cases hd : (d : ℕ) % 128 < 64
  · simp only [hd, dif_pos, pay11_apply, cos_apply, sin_apply, Nat.add_comm 64, Nat.add_assoc]
  · have e : 64 + ((d : ℕ) % 128 - 64) = d % 128 := by omega
    simp only [hd, dif_neg, not_false_eq_true, pay11_apply, cos_apply, sin_apply, e, Nat.add_assoc]

end Cert.Proof.ReferenceRow

end
-- ==== Proof.ReferenceArrays.lean ====
/-
  Hand-written, untrusted. THE REFERENCE'S RESULT ARRAYS after its run are the arrays of Proof/Arrays.lean, of the operand arrays
  the kernel call is given.
-/
module

public import proofs.«01_k».proof.Proof.ReferenceRow
public import proofs.«01_k».proof.Proof.Arrays
public import Idealize.ShloMosaic.Lib.Pipeline.ValueKit

@[expose] public section

set_option maxRecDepth 16384

noncomputable section

namespace Cert.Proof.ReferenceRow

open Idealize.ShloMosaic Cert.ReferenceIdeal Cert.ReferenceIdeal.Gen Idealize.ShloMosaic.TcCoe
open Idealize.ShloMosaic.Pipeline (Dat)

/-! ## What the body leaves in each result block -/

section

variable (X : Vec Ideal S8192x3584 .bf16) (G : Vec Ideal S1x3584 .f32) (W : Vec Ideal S3584x2304 .fp8e4m3)
  (S : Vec Ideal S1x2304 .f32) (P : Vec Ideal S8192x1 .i32)

theorem out5_eq : out0_5 X G W S P = queries X G W S P := by
  unfold_out out0_5
  frame_out
  funext i
  rw [eq_ix2 i]
  refine ((query_rotated _ _ _ _ _ _ _).trans (rotated_congr (funext fun c => proj_apply X G W S _ c) rfl rfl rfl)).trans (queries_apply X G W S P _ _).symm

theorem out6_eq : out0_6 X G W S P = keys X G W S P := by
  unfold_out out0_6
  frame_out
  funext i
  rw [eq_ix2 i]
  refine ((key_rotated _ _ _ _ _ _ _).trans (rotated_congr (funext fun c => proj_apply X G W S _ c) rfl rfl rfl)).trans (keys_apply X G W S P _ _).symm

theorem out7_eq : out0_7 X G W S P = values X G W S := by
  unfold_out out0_7
  frame_out
  funext i
  rw [eq_ix2 i]
  exact (pay3_apply _ _ _ _ _ _).trans (proj_apply X G W S _ _)

theorem out8_eq : out0_8 X G W S P = codes X G := by
  unfold_out out0_8
  frame_out
  funext i
  rw [eq_ix2 i]
  exact code_apply X G _ _

theorem out9_eq : out0_9 X G W S P = scales X G := by
  unfold_out out0_9
  frame_out
  funext i
  rw [eq_column i]
  exact scale_apply X G _

end

/-! ## The arrays after the run -/

variable (m : (ℓ : Loc nD τ sig) → Buf (Elt Ideal) ℓ)

/-- Every window's block index at the one point. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem iblk0 (c : Dev nD) (t : Fin cfg0.N) : iblk m c 0 t = V m c main_v0 := by
  funext i; blk_ext [iblk, idx t]

theorem iblk1 (c : Dev nD) (t : Fin cfg0.N) : iblk m c 1 t = V m c main_v1 := by
  funext i; blk_ext [iblk, idx t]

theorem iblk2 (c : Dev nD) (t : Fin cfg0.N) : iblk m c 2 t = V m c main_arg2 := by
  funext i; blk_ext [iblk, idx t]

theorem iblk3 (c : Dev nD) (t : Fin cfg0.N) : iblk m c 3 t = V m c main_v2 := by
  funext i; blk_ext [iblk, idx t]

theorem iblk4 (c : Dev nD) (t : Fin cfg0.N) : iblk m c 4 t = V m c main_v3 := by
  funext i; blk_ext [iblk, idx t]

theorem final5 (c : Dev nD) : (dats m 0 c).arrAt 5 cfg0.N
    = queries (V m c main_v0) (V m c main_v1) (V m c main_arg2) (V m c main_v2) (V m c main_v3) := by
  refine (dats m 0 c).arrAt_eq_of_after_last 5 t0_0 (by decide +kernel) _ fun j => ?_
  blk_simp
  rw [after0_5, out5_eq, iblk0, iblk1, iblk2, iblk3, iblk4]

theorem final6 (c : Dev nD) : (dats m 0 c).arrAt 6 cfg0.N
    = keys (V m c main_v0) (V m c main_v1) (V m c main_arg2) (V m c main_v2) (V m c main_v3) := by
  refine (dats m 0 c).arrAt_eq_of_after_last 6 t0_0 (by decide +kernel) _ fun j => ?_
  blk_simp
  rw [after0_6, out6_eq, iblk0, iblk1, iblk2, iblk3, iblk4]

theorem final7 (c : Dev nD) : (dats m 0 c).arrAt 7 cfg0.N
    = values (V m c main_v0) (V m c main_v1) (V m c main_arg2) (V m c main_v2) := by
  refine (dats m 0 c).arrAt_eq_of_after_last 7 t0_0 (by decide +kernel) _ fun j => ?_
  blk_simp
  rw [after0_7, out7_eq, iblk0, iblk1, iblk2, iblk3]

theorem final8 (c : Dev nD) : (dats m 0 c).arrAt 8 cfg0.N = codes (V m c main_v0) (V m c main_v1) := by
  refine (dats m 0 c).arrAt_eq_of_after_last 8 t0_0 (by decide +kernel) _ fun j => ?_
  blk_simp
  rw [after0_8, out8_eq, iblk0, iblk1]

theorem final9 (c : Dev nD) : (dats m 0 c).arrAt 9 cfg0.N = scales (V m c main_v0) (V m c main_v1) := by
  refine (dats m 0 c).arrAt_eq_of_after_last 9 t0_0 (by decide +kernel) _ fun j => ?_
  blk_simp
  rw [after0_9, out9_eq, iblk0, iblk1]

end Cert.Proof.ReferenceRow

end
-- ==== Proof.Entry.lean ====
/-
  Hand-written, untrusted. THE ARRAYS THE TWO KERNEL CALLS ARE GIVEN. The host operations before either call are the same four
  reshapes, so memories agreeing on the arguments give both calls the same operand arrays; and where no gain exceeds the largest
  finite number in magnitude, every row's target is below `2 ^ 126`.
-/
module

public import proofs.«01_k».proof.Defs
public import proofs.«01_k».proof.Proof.Arrays
public import proofs.«01_k».proof.Proof.Gen.KernelIdeal.Frame
public import proofs.«01_k».proof.Proof.Gen.ReferenceIdeal.Frame
public import Idealize.ShloMosaic.Lib.ReduceAll
public import Idealize.ShloMosaic.Lib.Claim
public import Idealize.ShloMosaic.Lib.Pointwise

@[expose] public section

set_option maxRecDepth 16384

noncomputable section

namespace Cert.Proof

open Idealize.ShloMosaic Idealize.ShloMosaic.TcCoe

/-- The side conditions of the precondition's own operations. -/
theorem preFacts : Cert.Pre_gain_finite.Facts where
  bcast_S_S3584 := by decide
  reducesTo_S3584_S_d0 := by decide
  h_S_ := by decide

/-- The precondition's word is one only where no gain exceeds the largest finite number in magnitude. -/
theorem gain_le [Cert.Pre_gain_finite.Facts] (X : FVec Ideal Cert.Pre_gain_finite.S2x4096x3584 .bf16)
    (G : FVec Ideal Cert.Pre_gain_finite.S3584 .f32) (W : FVec Ideal Cert.Pre_gain_finite.S3584x2304 .fp8e4m3)
    (S : FVec Ideal Cert.Pre_gain_finite.S2304 .f32) (P : IVec Cert.Pre_gain_finite.S2x4096 32)
    (h : Cert.Pre_gain_finite.fn X G W S P = fun _ => 1#1) (d : Fin 3584) :
    max (G (ix1 d)) (-(G (ix1 d))) ≤ Ideal.ofBits .f32 0x7F7FFFFF#32 := by
  have h0 := congrFun h ix0
  dsimp only [Cert.Pre_gain_finite.fn] at h0
  have h1 := Host.reduce_andi_all _ _ _ _ _ h0 (ix1 d)
  revert h1
  pointwise
  exact (Ideal.cmp_ole_eq_one _ _).1

section

variable (m : (ℓ : Loc Cert.KernelIdeal.nD Cert.KernelIdeal.τ Cert.KernelIdeal.sig) → Buf (Elt Ideal) ℓ)
  (c : Dev Cert.KernelIdeal.nD)

/-- The gain, read through its reshape. -/
theorem gain_entry (d : Fin 3584) : Cert.KernelIdeal.Gen.V m c Cert.KernelIdeal.main_v1 (ix2 0 d)
    = m ((c.tc : Thread Cert.KernelIdeal.nD Cert.KernelIdeal.τ).loc Cert.KernelIdeal.main_arg1) (ix1 d) := by
  entry_read
  pointwise

end

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Equal arguments give both calls the same activations. -/
theorem entry_v0 (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Gen.V m' c Cert.ReferenceIdeal.main_v0 = Cert.KernelIdeal.Gen.V m c Cert.KernelIdeal.main_v0 := by
  entry_read
  rw [h]
  rfl

/-- Equal arguments give both calls the same gain. -/
theorem entry_v1 (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Gen.V m' c Cert.ReferenceIdeal.main_v1 = Cert.KernelIdeal.Gen.V m c Cert.KernelIdeal.main_v1 := by
  entry_read
  rw [h]
  rfl

/-- Equal arguments give both calls the same weights. -/
theorem entry_arg2 (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Gen.V m' c Cert.ReferenceIdeal.main_arg2 = Cert.KernelIdeal.Gen.V m c Cert.KernelIdeal.main_arg2 :=
  (Cert.ReferenceIdeal.Gen.V_main_arg2 m' c).trans (h.trans (Cert.KernelIdeal.Gen.V_main_arg2 m c).symm)

/-- Equal arguments give both calls the same column scales. -/
theorem entry_v2 (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Gen.V m' c Cert.ReferenceIdeal.main_v2 = Cert.KernelIdeal.Gen.V m c Cert.KernelIdeal.main_v2 := by
  entry_read
  rw [h]
  rfl

/-- Equal arguments give both calls the same positions. -/
theorem entry_v3 (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Gen.V m' c Cert.ReferenceIdeal.main_v3 = Cert.KernelIdeal.Gen.V m c Cert.KernelIdeal.main_v3 := by
  entry_read
  rw [h]
  rfl

end

end Cert.Proof

end
-- ==== Proof.lean ====
/-
  Hand-written, untrusted. THE CERTIFICATE'S CLAIM, `Cert.Claim` (proofs.«01_k».proof.Defs): the frames of the three programs,
  the kernel at its printed and at its ideal instance being one program, and the kernel's five results being the reference's at
  the ideal instance where no gain exceeds the largest finite number in magnitude.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelBlocks
public import proofs.«01_k».proof.Proof.KernelArrays
public import proofs.«01_k».proof.Proof.ReferenceArrays
public import proofs.«01_k».proof.Proof.Entry

@[expose] public section

set_option maxRecDepth 16384

noncomputable section

namespace Cert.Proof

open Idealize.ShloMosaic Idealize.ShloMosaic.TcCoe Idealize.SL.Sem

section

variable (m : (ℓ : Loc Cert.KernelIdeal.nD Cert.KernelIdeal.τ Cert.KernelIdeal.sig) → Buf (Elt Ideal) ℓ)
  (g : Dev Cert.KernelIdeal.nD → PrngReg)

open Cert.KernelIdeal Cert.KernelIdeal.Gen in
/-- The kernel's run, where every row's target is below `2 ^ 126`: its results are the arrays of Proof/Arrays.lean, of the
    operand arrays its call is given. -/
theorem kernel_run (hq : ∀ c R, target (rowOf (V m c main_v0) R) (gainOf (V m c main_v1)) < pw 126) :
    θ_run (defs (F := Ideal)) (onTc (τ := τ) (main (F := Ideal))) ⟨m, fun _ => 0, g⟩ fun r => ∀ c : Dev nD,
      r.2.mem ((c : Thread nD τ).loc main_v4_0)
        = queries (V m c main_v0) (V m c main_v1) (V m c main_arg2) (V m c main_v2) (V m c main_v3)
      ∧ r.2.mem ((c : Thread nD τ).loc main_v4_1)
        = keys (V m c main_v0) (V m c main_v1) (V m c main_arg2) (V m c main_v2) (V m c main_v3)
      ∧ r.2.mem ((c : Thread nD τ).loc main_v4_2)
        = values (V m c main_v0) (V m c main_v1) (V m c main_arg2) (V m c main_v2)
      ∧ r.2.mem ((c : Thread nD τ).loc main_v4_3) = codes (V m c main_v0) (V m c main_v1)
      ∧ r.2.mem ((c : Thread nD τ).loc main_v4_4) = scales (V m c main_v0) (V m c main_v1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.KernelIdeal.Value.run_blocks m g)
  obtain ⟨h5, h6, h7, h8, h9, ha⟩ := h c
  exact ⟨h5.trans (KernelRow.final5 m c (hq c)), h6.trans (KernelRow.final6 m c (hq c)), h7.trans (KernelRow.final7 m c (hq c)),
    h8.trans (KernelRow.final8 m c (hq c)), h9.trans (KernelRow.final9 m c (hq c)), ha⟩

end

section

variable (m : (ℓ : Loc Cert.ReferenceIdeal.nD Cert.ReferenceIdeal.τ Cert.ReferenceIdeal.sig) → Buf (Elt Ideal) ℓ)
  (g : Dev Cert.ReferenceIdeal.nD → PrngReg)

open Cert.ReferenceIdeal Cert.ReferenceIdeal.Gen in
/-- The reference's run: its results are the arrays of Proof/Arrays.lean, of the operand arrays its call is given. -/
theorem reference_run :
    θ_run (defs (F := Ideal)) (onTc (τ := τ) (main (F := Ideal))) ⟨m, fun _ => 0, g⟩ fun r => ∀ c : Dev nD,
      r.2.mem ((c : Thread nD τ).loc main_v4_0)
        = queries (V m c main_v0) (V m c main_v1) (V m c main_arg2) (V m c main_v2) (V m c main_v3)
      ∧ r.2.mem ((c : Thread nD τ).loc main_v4_1)
        = keys (V m c main_v0) (V m c main_v1) (V m c main_arg2) (V m c main_v2) (V m c main_v3)
      ∧ r.2.mem ((c : Thread nD τ).loc main_v4_2)
        = values (V m c main_v0) (V m c main_v1) (V m c main_arg2) (V m c main_v2)
      ∧ r.2.mem ((c : Thread nD τ).loc main_v4_3) = codes (V m c main_v0) (V m c main_v1)
      ∧ r.2.mem ((c : Thread nD τ).loc main_v4_4) = scales (V m c main_v0) (V m c main_v1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.ReferenceIdeal.Value.run_blocks m g)
  obtain ⟨h5, h6, h7, h8, h9, ha⟩ := h c
  exact ⟨h5.trans (ReferenceRow.final5 m c), h6.trans (ReferenceRow.final6 m c), h7.trans (ReferenceRow.final7 m c),
    h8.trans (ReferenceRow.final8 m c), h9.trans (ReferenceRow.final9 m c), ha⟩

end

/-- The kernel and the reference, from memories agreeing on the arguments, end with the same five results, where no gain exceeds
    the largest finite number in magnitude. -/
theorem algebraic : Cert.algebraic_KernelIdeal_ReferenceIdeal_pre_gain_finite (hKernelIdeal := Cert.KernelIdeal.Gen.facts)
    (hReferenceIdeal := Cert.ReferenceIdeal.Gen.facts) (hPre_gain_finite := preFacts) := by
  letI := preFacts
  intro m g m' g' hpre hagree
  have hq : ∀ c R, target (rowOf (Cert.KernelIdeal.Gen.V m c Cert.KernelIdeal.main_v0) R)
      (gainOf (Cert.KernelIdeal.Gen.V m c Cert.KernelIdeal.main_v1)) < pw 126 := fun c R =>
    target_lt _ _ fun d => by
      rw [gainOf, gain_entry]
      exact gain_le _ _ _ _ _ (hpre c) d
  refine ⟨_, _, _, _, _, kernel_run m g hq, (θ_run _ _ _).mono (fun r h c => ?_) (reference_run m' g')⟩
  obtain ⟨a0, a1, a2, a3, a4⟩ := hagree c
  have h := h c
  rw [entry_v0 m m' c a0, entry_v1 m m' c a1, entry_arg2 m m' c a2, entry_v2 m m' c a3, entry_v3 m m' c a4] at h
  exact h

theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, fun m g _ => Cert.ReferenceIdeal.Gen.frame m g,
    fun m g _ => Cert.ReferenceIdeal.Gen.frame m g, trivial, algebraic⟩

end Cert.Proof

end
